-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v98)) (v2 : (c : Dev Cert.KernelIdeal.nD) → Buf (Elt Ideal) ((c.tc : Thread Cert.KernelIdeal.nD Cert.KernelIdeal.τ).loc Cert.KernelIdeal.main_v96_2)) (v3 : (c : Dev Cert.KernelIdeal.nD) → Buf (Elt Ideal) ((c.tc : Thread Cert.KernelIdeal.nD Cert.KernelIdeal.τ).loc Cert.KernelIdeal.main_v96_3)) (v4 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_v96_2) = v2 c
          ∧ r.2.mem ((c.tc : Thread Cert.KernelIdeal.nD Cert.KernelIdeal.τ).loc Cert.KernelIdeal.main_v96_3) = v3 c
          ∧ r.2.mem ((c.tc : Thread Cert.KernelIdeal.nD Cert.KernelIdeal.τ).loc Cert.KernelIdeal.main_v99) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x100x24 : Shape := ⟨3, ![4096, 100, 24]⟩
abbrev S4096x24 : Shape := ⟨2, ![4096, 24]⟩
abbrev S100 : Shape := ⟨1, ![100]⟩
abbrev S_ : Shape := ⟨0, ![]⟩

class Facts : Prop where
  bcast_S_S4096x100x24 : S_.BroadcastsInDim S4096x100x24 (![] : Fin 0 → Fin S4096x100x24.rank)
  bcast_S_S4096x24 : S_.BroadcastsInDim S4096x24 (![] : Fin 0 → Fin S4096x24.rank)
  bcast_S_S100 : S_.BroadcastsInDim S100 (![] : Fin 0 → Fin S100.rank)

variable [Facts]

def fn {F : FTy → Type} [FloatOps F] (main_arg0 : FVec F S4096x100x24 .f32) (main_arg1 : FVec F S4096x100x24 .f32) (main_arg2 : FVec F S4096x24 .f32) (main_arg3 : FVec F S100 .f32) (main_arg4 : FVec F S_ .f32) (main_arg5 : FVec F S_ .f32) (main_arg6 : FVec F S_ .f32) (main_arg7 : FVec F S_ .f32) : IVec S4096x100x24 1 × IVec S4096x100x24 1 × IVec S4096x24 1 × IVec S100 1 × IVec S_ 1 × IVec S_ 1 :=
  let main_v0 : FVec F S4096x100x24 .f32 := Host.absf main_arg0
  let main_cst : FVec F S_ .f32 := constant S_ .f32 0x7F800000#32
  let main_v1 : FVec F S4096x100x24 .f32 := broadcastInDim S4096x100x24 ![] bcast_S_S4096x100x24 main_cst
  let main_v2 : IVec S4096x100x24 1 := cmpf .olt main_v0 main_v1
  let main_v3 : FVec F S4096x100x24 .f32 := Host.absf main_arg1
  let main_cst_0 : FVec F S_ .f32 := constant S_ .f32 0x7F800000#32
  let main_v4 : FVec F S4096x100x24 .f32 := broadcastInDim S4096x100x24 ![] bcast_S_S4096x100x24 main_cst_0
  let main_v5 : IVec S4096x100x24 1 := cmpf .olt main_v3 main_v4
  let main_v6 : FVec F S4096x24 .f32 := Host.absf main_arg2
  let main_cst_1 : FVec F S_ .f32 := constant S_ .f32 0x7F800000#32
  let main_v7 : FVec F S4096x24 .f32 := broadcastInDim S4096x24 ![] bcast_S_S4096x24 main_cst_1
  let main_v8 : IVec S4096x24 1 := cmpf .olt main_v6 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_v12 : FVec F S_ .f32 := Host.absf main_arg6
  let main_cst_3 : FVec F S_ .f32 := constant S_ .f32 0x7F800000#32
  let main_v13 : IVec S_ 1 := cmpf .olt main_v12 main_cst_3
  let main_v14 : FVec F S_ .f32 := Host.absf main_arg7
  let main_cst_4 : FVec F S_ .f32 := constant S_ .f32 0x7F800000#32
  let main_v15 : IVec S_ 1 := cmpf .olt main_v14 main_cst_4
  (main_v2, main_v5, main_v8, main_v11, main_v13, main_v15)
-- ==== Kernel.lean ====
abbrev S4096x100x24 : Shape := ⟨3, ![4096, 100, 24]⟩
abbrev S4096x24 : Shape := ⟨2, ![4096, 24]⟩
abbrev S100 : Shape := ⟨1, ![100]⟩
abbrev S_ : Shape := ⟨0, ![]⟩
abbrev S1 : Shape := ⟨1, ![1]⟩
abbrev S101 : Shape := ⟨1, ![101]⟩
abbrev S101x24 : Shape := ⟨2, ![101, 24]⟩
abbrev S2424 : Shape := ⟨1, ![2424]⟩
abbrev S24 : Shape := ⟨1, ![24]⟩
abbrev S1x24 : Shape := ⟨2, ![1, 24]⟩
abbrev S2424x1 : Shape := ⟨2, ![2424, 1]⟩
abbrev S1x2424 : Shape := ⟨2, ![1, 2424]⟩
abbrev S2424x2424 : Shape := ⟨2, ![2424, 2424]⟩
abbrev S4096x2400 : Shape := ⟨2, ![4096, 2400]⟩
abbrev S4096x1 : Shape := ⟨2, ![4096, 1]⟩
abbrev S256x24 : Shape := ⟨2, ![256, 24]⟩
abbrev S256x2400 : Shape := ⟨2, ![256, 2400]⟩
abbrev S256x1 : Shape := ⟨2, ![256, 1]⟩
abbrev S256x2424 : Shape := ⟨2, ![256, 2424]⟩
abbrev S512x2424 : Shape := ⟨2, ![512, 2424]⟩
abbrev S256 : Shape := ⟨1, ![256]⟩
abbrev S4096 : Shape := ⟨1, ![4096]⟩

abbrev nBuf : Space → Nat
  | .hbm => 120
  | .vmem => 20
  | .smem => 0
  | _ => 0

abbrev bufTy : (tb : Table) → Fin (tcTables nBuf tb) → BufTy
  | .hbm, ⟨0, _⟩ => ⟨S4096x100x24, .f32⟩
  | .hbm, ⟨1, _⟩ => ⟨S4096x100x24, .f32⟩
  | .hbm, ⟨2, _⟩ => ⟨S4096x24, .f32⟩
  | .hbm, ⟨3, _⟩ => ⟨S100, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S100, .f32⟩
  | .hbm, ⟨9, _⟩ => ⟨S100, .f32⟩
  | .hbm, ⟨10, _⟩ => ⟨S1, .f32⟩
  | .hbm, ⟨11, _⟩ => ⟨S101, .f32⟩
  | .hbm, ⟨12, _⟩ => ⟨S100, .f32⟩
  | .hbm, ⟨13, _⟩ => ⟨S100, .f32⟩
  | .hbm, ⟨14, _⟩ => ⟨S1, .f32⟩
  | .hbm, ⟨15, _⟩ => ⟨S101, .f32⟩
  | .hbm, ⟨16, _⟩ => ⟨S101x24, .f32⟩
  | .hbm, ⟨17, _⟩ => ⟨S2424, .f32⟩
  | .hbm, ⟨18, _⟩ => ⟨S101, .i32⟩
  | .hbm, ⟨19, _⟩ => ⟨S101x24, .i32⟩
  | .hbm, ⟨20, _⟩ => ⟨S2424, .i32⟩
  | .hbm, ⟨21, _⟩ => ⟨S24, .i32⟩
  | .hbm, ⟨22, _⟩ => ⟨S1x24, .i32⟩
  | .hbm, ⟨23, _⟩ => ⟨S101x24, .i32⟩
  | .hbm, ⟨24, _⟩ => ⟨S2424, .i32⟩
  | .hbm, ⟨25, _⟩ => ⟨S2424x1, .f32⟩
  | .hbm, ⟨26, _⟩ => ⟨S1x2424, .f32⟩
  | .hbm, ⟨27, _⟩ => ⟨S2424x2424, .f32⟩
  | .hbm, ⟨28, _⟩ => ⟨S2424x2424, .f32⟩
  | .hbm, ⟨29, _⟩ => ⟨S2424x2424, .i1⟩
  | .hbm, ⟨30, _⟩ => ⟨S2424x1, .f32⟩
  | .hbm, ⟨31, _⟩ => ⟨S1x2424, .f32⟩
  | .hbm, ⟨32, _⟩ => ⟨S2424x2424, .f32⟩
  | .hbm, ⟨33, _⟩ => ⟨S2424x2424, .f32⟩
  | .hbm, ⟨34, _⟩ => ⟨S2424x2424, .i1⟩
  | .hbm, ⟨35, _⟩ => ⟨S2424x1, .i32⟩
  | .hbm, ⟨36, _⟩ => ⟨S1x2424, .i32⟩
  | .hbm, ⟨37, _⟩ => ⟨S2424x2424, .i32⟩
  | .hbm, ⟨38, _⟩ => ⟨S2424x2424, .i32⟩
  | .hbm, ⟨39, _⟩ => ⟨S2424x2424, .i1⟩
  | .hbm, ⟨40, _⟩ => ⟨S2424x2424, .i1⟩
  | .hbm, ⟨41, _⟩ => ⟨S2424x2424, .i1⟩
  | .hbm, ⟨42, _⟩ => ⟨S2424x2424, .f32⟩
  | .hbm, ⟨43, _⟩ => ⟨S2424x1, .i32⟩
  | .hbm, ⟨44, _⟩ => ⟨S_, .i32⟩
  | .hbm, ⟨45, _⟩ => ⟨S2424x1, .i32⟩
  | .hbm, ⟨46, _⟩ => ⟨S2424x1, .i1⟩
  | .hbm, ⟨47, _⟩ => ⟨S2424x1, .f32⟩
  | .hbm, ⟨48, _⟩ => ⟨S2424x2424, .f32⟩
  | .hbm, ⟨49, _⟩ => ⟨S2424x2424, .f32⟩
  | .hbm, ⟨50, _⟩ => ⟨S2424x1, .i32⟩
  | .hbm, ⟨51, _⟩ => ⟨S1x2424, .i32⟩
  | .hbm, ⟨52, _⟩ => ⟨S2424x2424, .i32⟩
  | .hbm, ⟨53, _⟩ => ⟨S2424x2424, .i32⟩
  | .hbm, ⟨54, _⟩ => ⟨S2424x2424, .i1⟩
  | .hbm, ⟨55, _⟩ => ⟨S_, .f32⟩
  | .hbm, ⟨56, _⟩ => ⟨S_, .f32⟩
  | .hbm, ⟨57, _⟩ => ⟨S2424x2424, .f32⟩
  | .hbm, ⟨58, _⟩ => ⟨S2424x2424, .f32⟩
  | .hbm, ⟨59, _⟩ => ⟨S2424x2424, .bf16⟩
  | .hbm, ⟨60, _⟩ => ⟨S101x24, .f32⟩
  | .hbm, ⟨61, _⟩ => ⟨S2424, .f32⟩
  | .hbm, ⟨62, _⟩ => ⟨S101, .i32⟩
  | .hbm, ⟨63, _⟩ => ⟨S101x24, .i32⟩
  | .hbm, ⟨64, _⟩ => ⟨S2424, .i32⟩
  | .hbm, ⟨65, _⟩ => ⟨S24, .i32⟩
  | .hbm, ⟨66, _⟩ => ⟨S1x24, .i32⟩
  | .hbm, ⟨67, _⟩ => ⟨S101x24, .i32⟩
  | .hbm, ⟨68, _⟩ => ⟨S2424, .i32⟩
  | .hbm, ⟨69, _⟩ => ⟨S2424x1, .f32⟩
  | .hbm, ⟨70, _⟩ => ⟨S1x2424, .f32⟩
  | .hbm, ⟨71, _⟩ => ⟨S2424x2424, .f32⟩
  | .hbm, ⟨72, _⟩ => ⟨S2424x2424, .f32⟩
  | .hbm, ⟨73, _⟩ => ⟨S2424x2424, .i1⟩
  | .hbm, ⟨74, _⟩ => ⟨S2424x1, .f32⟩
  | .hbm, ⟨75, _⟩ => ⟨S1x2424, .f32⟩
  | .hbm, ⟨76, _⟩ => ⟨S2424x2424, .f32⟩
  | .hbm, ⟨77, _⟩ => ⟨S2424x2424, .f32⟩
  | .hbm, ⟨78, _⟩ => ⟨S2424x2424, .i1⟩
  | .hbm, ⟨79, _⟩ => ⟨S2424x1, .i32⟩
  | .hbm, ⟨80, _⟩ => ⟨S1x2424, .i32⟩
  | .hbm, ⟨81, _⟩ => ⟨S2424x2424, .i32⟩
  | .hbm, ⟨82, _⟩ => ⟨S2424x2424, .i32⟩
  | .hbm, ⟨83, _⟩ => ⟨S2424x2424, .i1⟩
  | .hbm, ⟨84, _⟩ => ⟨S2424x2424, .i1⟩
  | .hbm, ⟨85, _⟩ => ⟨S2424x2424, .i1⟩
  | .hbm, ⟨86, _⟩ => ⟨S2424x2424, .f32⟩
  | .hbm, ⟨87, _⟩ => ⟨S2424x1, .i32⟩
  | .hbm, ⟨88, _⟩ => ⟨S_, .i32⟩
  | .hbm, ⟨89, _⟩ => ⟨S2424x1, .i32⟩
  | .hbm, ⟨90, _⟩ => ⟨S2424x1, .i1⟩
  | .hbm, ⟨91, _⟩ => ⟨S2424x1, .f32⟩
  | .hbm, ⟨92, _⟩ => ⟨S2424x2424, .f32⟩
  | .hbm, ⟨93, _⟩ => ⟨S2424x2424, .f32⟩
  | .hbm, ⟨94, _⟩ => ⟨S2424x1, .i32⟩
  | .hbm, ⟨95, _⟩ => ⟨S1x2424, .i32⟩
  | .hbm, ⟨96, _⟩ => ⟨S2424x2424, .i32⟩
  | .hbm, ⟨97, _⟩ => ⟨S2424x2424, .i32⟩
  | .hbm, ⟨98, _⟩ => ⟨S2424x2424, .i1⟩
  | .hbm, ⟨99, _⟩ => ⟨S_, .f32⟩
  | .hbm, ⟨100, _⟩ => ⟨S_, .f32⟩
  | .hbm, ⟨101, _⟩ => ⟨S2424x2424, .f32⟩
  | .hbm, ⟨102, _⟩ => ⟨S2424x2424, .f32⟩
  | .hbm, ⟨103, _⟩ => ⟨S2424x2424, .bf16⟩
  | .hbm, ⟨104, _⟩ => ⟨S101x24, .f32⟩
  | .hbm, ⟨105, _⟩ => ⟨S2424, .f32⟩
  | .hbm, ⟨106, _⟩ => ⟨S1x2424, .f32⟩
  | .hbm, ⟨107, _⟩ => ⟨S101x24, .f32⟩
  | .hbm, ⟨108, _⟩ => ⟨S2424, .f32⟩
  | .hbm, ⟨109, _⟩ => ⟨S1x2424, .f32⟩
  | .hbm, ⟨110, _⟩ => ⟨S4096x2400, .f32⟩
  | .hbm, ⟨111, _⟩ => ⟨S4096x2400, .f32⟩
  | .hbm, ⟨112, _⟩ => ⟨S4096x2400, .f32⟩
  | .hbm, ⟨113, _⟩ => ⟨S4096x2400, .f32⟩
  | .hbm, ⟨114, _⟩ => ⟨S4096x24, .f32⟩
  | .hbm, ⟨115, _⟩ => ⟨S4096x24, .f32⟩
  | .hbm, ⟨116, _⟩ => ⟨S4096x1, .f32⟩
  | .hbm, ⟨117, _⟩ => ⟨S4096x100x24, .f32⟩
  | .hbm, ⟨118, _⟩ => ⟨S4096x100x24, .f32⟩
  | .hbm, ⟨119, _⟩ => ⟨S4096, .f32⟩
  | .local _ .vmem, ⟨0, _⟩ => ⟨S2424x2424, .bf16⟩
  | .local _ .vmem, ⟨1, _⟩ => ⟨S2424x2424, .bf16⟩
  | .local _ .vmem, ⟨2, _⟩ => ⟨S1x2424, .f32⟩
  | .local _ .vmem, ⟨3, _⟩ => ⟨S1x2424, .f32⟩
  | .local _ .vmem, ⟨4, _⟩ => ⟨S256x24, .f32⟩
  | .local _ .vmem, ⟨5, _⟩ => ⟨S256x24, .f32⟩
  | .local _ .vmem, ⟨6, _⟩ => ⟨S256x2400, .f32⟩
  | .local _ .vmem, ⟨7, _⟩ => ⟨S256x2400, .f32⟩
  | .local _ .vmem, ⟨8, _⟩ => ⟨S256x2400, .f32⟩
  | .local _ .vmem, ⟨9, _⟩ => ⟨S256x2400, .f32⟩
  | .local _ .vmem, ⟨10, _⟩ => ⟨S256x2400, .f32⟩
  | .local _ .vmem, ⟨11, _⟩ => ⟨S256x2400, .f32⟩
  | .local _ .vmem, ⟨12, _⟩ => ⟨S256x2400, .f32⟩
  | .local _ .vmem, ⟨13, _⟩ => ⟨S256x2400, .f32⟩
  | .local _ .vmem, ⟨14, _⟩ => ⟨S256x24, .f32⟩
  | .local _ .vmem, ⟨15, _⟩ => ⟨S256x24, .f32⟩
  | .local _ .vmem, ⟨16, _⟩ => ⟨S256x24, .f32⟩
  | .local _ .vmem, ⟨17, _⟩ => ⟨S256x24, .f32⟩
  | .local _ .vmem, ⟨18, _⟩ => ⟨S256x1, .f32⟩
  | .local _ .vmem, ⟨19, _⟩ => ⟨S256x1, .f32⟩
  | _, _ => ⟨S4096x100x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst : Ref sig .tc := ⟨.hbm, 55, rfl⟩
abbrev main_call0_v0 : Ref sig .tc := ⟨.hbm, 56, rfl⟩
abbrev main_call0_v1 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_c_0 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_1 : Ref sig .tc := ⟨.hbm, 99, rfl⟩
abbrev main_call1_v0 : Ref sig .tc := ⟨.hbm, 100, rfl⟩
abbrev main_call1_v1 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96_0 : Ref sig .tc := ⟨.hbm, 112, rfl⟩
abbrev main_v96_1 : Ref sig .tc := ⟨.hbm, 113, rfl⟩
abbrev main_v96_2 : Ref sig .tc := ⟨.hbm, 114, rfl⟩
abbrev main_v96_3 : Ref sig .tc := ⟨.hbm, 115, rfl⟩
abbrev main_v96_4 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2424x2424 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2424x2424 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2424 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2424 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2400 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x24 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x24 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x100x24 : Shape := ⟨3, ![4096, 100, 24]⟩
abbrev S4096x24 : Shape := ⟨2, ![4096, 24]⟩
abbrev S100 : Shape := ⟨1, ![100]⟩
abbrev S_ : Shape := ⟨0, ![]⟩
abbrev S1 : Shape := ⟨1, ![1]⟩
abbrev S101 : Shape := ⟨1, ![101]⟩
abbrev S4096x1x24 : Shape := ⟨3, ![4096, 1, 24]⟩
abbrev S4096x101x24 : Shape := ⟨3, ![4096, 101, 24]⟩
abbrev S101x1 : Shape := ⟨2, ![101, 1]⟩
abbrev S4096x100 : Shape := ⟨2, ![4096, 100]⟩
abbrev S4096 : Shape := ⟨1, ![4096]⟩

abbrev nBuf : Space → Nat
  | .hbm => 122
  | .vmem => 0
  | .smem => 0
  | _ => 0

abbrev bufTy : (tb : Table) → Fin (tcTables nBuf tb) → BufTy
  | .hbm, ⟨0, _⟩ => ⟨S4096x100x24, .f32⟩
  | .hbm, ⟨1, _⟩ => ⟨S4096x100x24, .f32⟩
  | .hbm, ⟨2, _⟩ => ⟨S4096x24, .f32⟩
  | .hbm, ⟨3, _⟩ => ⟨S100, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S100, .f32⟩
  | .hbm, ⟨12, _⟩ => ⟨S_, .f32⟩
  | .hbm, ⟨13, _⟩ => ⟨S4096x24, .f32⟩
  | .hbm, ⟨14, _⟩ => ⟨S4096x24, .f32⟩
  | .hbm, ⟨15, _⟩ => ⟨S4096x24, .f32⟩
  | .hbm, ⟨16, _⟩ => ⟨S_, .f32⟩
  | .hbm, ⟨17, _⟩ => ⟨S4096x24, .f32⟩
  | .hbm, ⟨18, _⟩ => ⟨S4096x24, .f32⟩
  | .hbm, ⟨19, _⟩ => ⟨S1, .f32⟩
  | .hbm, ⟨20, _⟩ => ⟨S101, .f32⟩
  | .hbm, ⟨21, _⟩ => ⟨S4096x1x24, .f32⟩
  | .hbm, ⟨22, _⟩ => ⟨S4096x101x24, .f32⟩
  | .hbm, ⟨23, _⟩ => ⟨S101, .i32⟩
  | .hbm, ⟨24, _⟩ => ⟨S101, .f32⟩
  | .hbm, ⟨25, _⟩ => ⟨S101, .i32⟩
  | .hbm, ⟨26, _⟩ => ⟨S_, .i32⟩
  | .hbm, ⟨27, _⟩ => ⟨S101, .i32⟩
  | .hbm, ⟨28, _⟩ => ⟨S101, .i1⟩
  | .hbm, ⟨29, _⟩ => ⟨S_, .i32⟩
  | .hbm, ⟨30, _⟩ => ⟨S101, .i32⟩
  | .hbm, ⟨31, _⟩ => ⟨S101, .i32⟩
  | .hbm, ⟨32, _⟩ => ⟨S101, .i32⟩
  | .hbm, ⟨33, _⟩ => ⟨S101x1, .i32⟩
  | .hbm, ⟨34, _⟩ => ⟨S4096x101x24, .f32⟩
  | .hbm, ⟨35, _⟩ => ⟨S_, .f32⟩
  | .hbm, ⟨36, _⟩ => ⟨S_, .f32⟩
  | .hbm, ⟨37, _⟩ => ⟨S4096x101x24, .f32⟩
  | .hbm, ⟨38, _⟩ => ⟨S4096x101x24, .f32⟩
  | .hbm, ⟨39, _⟩ => ⟨S4096x1x24, .f32⟩
  | .hbm, ⟨40, _⟩ => ⟨S4096x101x24, .f32⟩
  | .hbm, ⟨41, _⟩ => ⟨S4096x101x24, .f32⟩
  | .hbm, ⟨42, _⟩ => ⟨S_, .f32⟩
  | .hbm, ⟨43, _⟩ => ⟨S_, .f32⟩
  | .hbm, ⟨44, _⟩ => ⟨S4096x101x24, .f32⟩
  | .hbm, ⟨45, _⟩ => ⟨S4096x101x24, .f32⟩
  | .hbm, ⟨46, _⟩ => ⟨S4096x101x24, .f32⟩
  | .hbm, ⟨47, _⟩ => ⟨S101, .i32⟩
  | .hbm, ⟨48, _⟩ => ⟨S101, .i32⟩
  | .hbm, ⟨49, _⟩ => ⟨S101, .i32⟩
  | .hbm, ⟨50, _⟩ => ⟨S_, .i32⟩
  | .hbm, ⟨51, _⟩ => ⟨S101, .i32⟩
  | .hbm, ⟨52, _⟩ => ⟨S101, .i1⟩
  | .hbm, ⟨53, _⟩ => ⟨S_, .i32⟩
  | .hbm, ⟨54, _⟩ => ⟨S101, .i32⟩
  | .hbm, ⟨55, _⟩ => ⟨S101, .i32⟩
  | .hbm, ⟨56, _⟩ => ⟨S101, .i32⟩
  | .hbm, ⟨57, _⟩ => ⟨S101x1, .i32⟩
  | .hbm, ⟨58, _⟩ => ⟨S4096x101x24, .f32⟩
  | .hbm, ⟨59, _⟩ => ⟨S4096x100x24, .f32⟩
  | .hbm, ⟨60, _⟩ => ⟨S4096x1x24, .f32⟩
  | .hbm, ⟨61, _⟩ => ⟨S4096x24, .f32⟩
  | .hbm, ⟨62, _⟩ => ⟨S1, .f32⟩
  | .hbm, ⟨63, _⟩ => ⟨S101, .f32⟩
  | .hbm, ⟨64, _⟩ => ⟨S4096x1x24, .f32⟩
  | .hbm, ⟨65, _⟩ => ⟨S4096x101x24, .f32⟩
  | .hbm, ⟨66, _⟩ => ⟨S101, .i32⟩
  | .hbm, ⟨67, _⟩ => ⟨S101, .f32⟩
  | .hbm, ⟨68, _⟩ => ⟨S101, .i32⟩
  | .hbm, ⟨69, _⟩ => ⟨S_, .i32⟩
  | .hbm, ⟨70, _⟩ => ⟨S101, .i32⟩
  | .hbm, ⟨71, _⟩ => ⟨S101, .i1⟩
  | .hbm, ⟨72, _⟩ => ⟨S_, .i32⟩
  | .hbm, ⟨73, _⟩ => ⟨S101, .i32⟩
  | .hbm, ⟨74, _⟩ => ⟨S101, .i32⟩
  | .hbm, ⟨75, _⟩ => ⟨S101, .i32⟩
  | .hbm, ⟨76, _⟩ => ⟨S101x1, .i32⟩
  | .hbm, ⟨77, _⟩ => ⟨S4096x101x24, .f32⟩
  | .hbm, ⟨78, _⟩ => ⟨S_, .f32⟩
  | .hbm, ⟨79, _⟩ => ⟨S_, .f32⟩
  | .hbm, ⟨80, _⟩ => ⟨S4096x101x24, .f32⟩
  | .hbm, ⟨81, _⟩ => ⟨S4096x101x24, .f32⟩
  | .hbm, ⟨82, _⟩ => ⟨S4096x1x24, .f32⟩
  | .hbm, ⟨83, _⟩ => ⟨S4096x101x24, .f32⟩
  | .hbm, ⟨84, _⟩ => ⟨S4096x101x24, .f32⟩
  | .hbm, ⟨85, _⟩ => ⟨S_, .f32⟩
  | .hbm, ⟨86, _⟩ => ⟨S_, .f32⟩
  | .hbm, ⟨87, _⟩ => ⟨S4096x101x24, .f32⟩
  | .hbm, ⟨88, _⟩ => ⟨S4096x101x24, .f32⟩
  | .hbm, ⟨89, _⟩ => ⟨S4096x101x24, .f32⟩
  | .hbm, ⟨90, _⟩ => ⟨S101, .i32⟩
  | .hbm, ⟨91, _⟩ => ⟨S101, .i32⟩
  | .hbm, ⟨92, _⟩ => ⟨S101, .i32⟩
  | .hbm, ⟨93, _⟩ => ⟨S_, .i32⟩
  | .hbm, ⟨94, _⟩ => ⟨S101, .i32⟩
  | .hbm, ⟨95, _⟩ => ⟨S101, .i1⟩
  | .hbm, ⟨96, _⟩ => ⟨S_, .i32⟩
  | .hbm, ⟨97, _⟩ => ⟨S101, .i32⟩
  | .hbm, ⟨98, _⟩ => ⟨S101, .i32⟩
  | .hbm, ⟨99, _⟩ => ⟨S101, .i32⟩
  | .hbm, ⟨100, _⟩ => ⟨S101x1, .i32⟩
  | .hbm, ⟨101, _⟩ => ⟨S4096x101x24, .f32⟩
  | .hbm, ⟨102, _⟩ => ⟨S4096x100x24, .f32⟩
  | .hbm, ⟨103, _⟩ => ⟨S4096x1x24, .f32⟩
  | .hbm, ⟨104, _⟩ => ⟨S4096x24, .f32⟩
  | .hbm, ⟨105, _⟩ => ⟨S_, .f32⟩
  | .hbm, ⟨106, _⟩ => ⟨S4096x100, .f32⟩
  | .hbm, ⟨107, _⟩ => ⟨S4096, .f32⟩
  | .hbm, ⟨108, _⟩ => ⟨S_, .f32⟩
  | .hbm, ⟨109, _⟩ => ⟨S4096x100, .f32⟩
  | .hbm, ⟨110, _⟩ => ⟨S4096, .f32⟩
  | .hbm, ⟨111, _⟩ => ⟨S4096, .f32⟩
  | .hbm, ⟨112, _⟩ => ⟨S_, .f32⟩
  | .hbm, ⟨113, _⟩ => ⟨S4096, .f32⟩
  | .hbm, ⟨114, _⟩ => ⟨S4096, .f32⟩
  | .hbm, ⟨115, _⟩ => ⟨S4096, .f32⟩
  | .hbm, ⟨116, _⟩ => ⟨S4096, .f32⟩
  | .hbm, ⟨117, _⟩ => ⟨S_, .f32⟩
  | .hbm, ⟨118, _⟩ => ⟨S4096, .f32⟩
  | .hbm, ⟨119, _⟩ => ⟨S4096, .f32⟩
  | .hbm, ⟨120, _⟩ => ⟨S4096, .f32⟩
  | .hbm, ⟨121, _⟩ => ⟨S4096, .f32⟩
  | _, _ => ⟨S4096x100x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1_0 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_call0_cst : Ref sig .tc := ⟨.hbm, 35, rfl⟩
abbrev main_call1_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v26 : Ref sig .tc := ⟨.hbm, 46, rfl⟩
abbrev main_call3_v0 : Ref sig .tc := ⟨.hbm, 47, rfl⟩
abbrev main_call3_v1_0 : Ref sig .tc := ⟨.hbm, 48, rfl⟩
abbrev main_v27 : Ref sig .tc := ⟨.hbm, 49, rfl⟩
abbrev main_c_3 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call4_v0 : Ref sig .tc := ⟨.hbm, 66, rfl⟩
abbrev main_call4_v1_0 : Ref sig .tc := ⟨.hbm, 67, rfl⟩
abbrev main_v42 : Ref sig .tc := ⟨.hbm, 68, rfl⟩
abbrev main_c_5 : Ref sig .tc := ⟨.hbm, 69, rfl⟩
abbrev main_v43 : Ref sig .tc := ⟨.hbm, 70, rfl⟩
abbrev main_v44 : Ref sig .tc := ⟨.hbm, 71, rfl⟩
abbrev main_c_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call5_call0_cst : Ref sig .tc := ⟨.hbm, 78, rfl⟩
abbrev main_call5_call0_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_v55 : Ref sig .tc := ⟨.hbm, 89, rfl⟩
abbrev main_call7_v0 : Ref sig .tc := ⟨.hbm, 90, rfl⟩
abbrev main_call7_v1_0 : Ref sig .tc := ⟨.hbm, 91, rfl⟩
abbrev main_v56 : Ref sig .tc := ⟨.hbm, 92, rfl⟩
abbrev main_c_8 : Ref sig .tc := ⟨.hbm, 93, rfl⟩
abbrev main_v57 : Ref sig .tc := ⟨.hbm, 94, rfl⟩
abbrev main_v58 : Ref sig .tc := ⟨.hbm, 95, rfl⟩
abbrev main_c_9 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_10 : Ref sig .tc := ⟨.hbm, 105, rfl⟩
abbrev main_v67 : Ref sig .tc := ⟨.hbm, 106, rfl⟩
abbrev main_v68 : Ref sig .tc := ⟨.hbm, 107, rfl⟩
abbrev main_cst_11 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_12 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_13 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩

abbrev nD : Nat := 1
abbrev τ : Topo := Topo.v7x

variable {F : FTy → Type} [FloatOps F]
-- ==== Proof.Merit.lean ====
/- Serving a demand in merit order: the mathematics alone, over extended reals, for any number of capacities.
   The capacities are served from the lowest price up, the lower index first where prices agree. -/
module

public import Idealize.ShloMosaic.Lib.SortPrefix
public import Mathlib.Data.EReal.Operations
public import Mathlib.Algebra.BigOperators.Fin
public import Mathlib.Algebra.Order.BigOperators.Group.Finset

@[expose] public section

noncomputable section

namespace Cert.Merit

open Idealize.ShloMosaic

variable {n : ℕ}

/-- `a` is served before `b`: its price is lower, or the prices agree and its index is lower. -/
def Earlier (p : Fin n → EReal) (a b : Fin n) : Prop := p a < p b ∨ (p a = p b ∧ a < b)

open Classical in
/-- What is taken from capacity `g`: what the demand leaves once all the earlier capacities are counted, cut to
    between nothing and the capacity. -/
def served (p : Fin n → EReal) (dem : EReal) (cap : Fin n → EReal) (g : Fin n) : EReal :=
  min (cap g) (max 0 (dem - ∑ a, if Earlier p a g then cap a else 0))

/-! ## Finite extended reals -/

/-- An extended real that is a real number. -/
def Finite (x : EReal) : Prop := x ≠ ⊤ ∧ x ≠ ⊥

theorem Finite.zero : Finite 0 := ⟨EReal.zero_ne_top, EReal.zero_ne_bot⟩

theorem Finite.coe (x : ℝ) : Finite (x : EReal) := ⟨EReal.coe_ne_top x, EReal.coe_ne_bot x⟩

theorem Finite.eq {x : EReal} (h : Finite x) : ((x.toReal : ℝ) : EReal) = x := EReal.coe_toReal h.1 h.2

/-- A family of finite extended reals is a family of reals. -/
theorem Finite.lift {ι : Type} {x : ι → EReal} (h : ∀ i, Finite (x i)) : ∃ y : ι → ℝ, x = fun i => (y i : EReal) :=
  ⟨fun i => (x i).toReal, funext fun i => (h i).eq.symm⟩

theorem Finite.neg {x : EReal} (h : Finite x) : Finite (-x) := by
  rw [← h.eq, ← EReal.coe_neg]; exact .coe _

theorem Finite.mul {x y : EReal} (hx : Finite x) (hy : Finite y) : Finite (x * y) := by
  rw [← hx.eq, ← hy.eq, ← EReal.coe_mul]; exact .coe _

theorem Finite.max {x y : EReal} (hx : Finite x) (hy : Finite y) : Finite (max x y) := by
  rcases max_choice x y with h | h <;> rw [h] <;> assumption

theorem Finite.min {x y : EReal} (hx : Finite x) (hy : Finite y) : Finite (min x y) := by
  rcases min_choice x y with h | h <;> rw [h] <;> assumption

theorem Finite.sub {x y : EReal} (hx : Finite x) (hy : Finite y) : Finite (x - y) := by
  rw [← hx.eq, ← hy.eq, ← EReal.coe_sub]; exact .coe _

theorem Finite.sub_self {x : EReal} (h : Finite x) : x - x = 0 := EReal.sub_self h.1 h.2

/-- The sum of reals, read as extended reals. -/
theorem coe_sum {ι : Type} (s : Finset ι) (y : ι → ℝ) : (∑ i ∈ s, (y i : EReal)) = ((∑ i ∈ s, y i : ℝ) : EReal) := by
  classical
  induction s using Finset.induction_on with
  | empty => simp
  | insert a s ha ih => rw [Finset.sum_insert ha, Finset.sum_insert ha, ih, EReal.coe_add]

theorem Finite.sum {ι : Type} (s : Finset ι) {x : ι → EReal} (h : ∀ i, Finite (x i)) : Finite (∑ i ∈ s, x i) := by
  obtain ⟨y, rfl⟩ := Finite.lift h
  rw [coe_sum]; exact .coe _

/-- A finite factor goes into a sum of finite terms. -/
theorem mul_sum_of_finite {ι : Type} (s : Finset ι) {c : EReal} {x : ι → EReal} (hc : Finite c) (h : ∀ i, Finite (x i)) :
    c * ∑ i ∈ s, x i = ∑ i ∈ s, c * x i := by
  obtain ⟨y, rfl⟩ := Finite.lift h
  rw [← hc.eq, coe_sum, ← EReal.coe_mul, Finset.mul_sum, ← coe_sum]
  simp only [EReal.coe_mul]

/-- Any factor goes into a sum of nonnegative terms. -/
theorem mul_sum_of_nonneg {ι : Type} (s : Finset ι) (c : EReal) {x : ι → EReal} (h : ∀ i, 0 ≤ x i) :
    c * ∑ i ∈ s, x i = ∑ i ∈ s, c * x i := by
  classical
  induction s using Finset.induction_on with
  | empty => simp
  | insert a s ha ih =>
    rw [Finset.sum_insert ha, Finset.sum_insert ha,
      EReal.left_distrib_of_nonneg (h a) (Finset.sum_nonneg fun i _ => h i), ih]

/-! ## The sorting permutation -/

/-- A stable insertion sort of an increasing list only ever asks whether a later position sorts before an earlier
    one, so two relations that agree on such pairs sort it alike. -/
theorem stableSort_of_increasing {B B' : Fin n → Fin n → Bool} (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

/-- The stable sort by price is the sort by price and then by index. -/
theorem sortedFrom_eq_of_later {B B' : Fin n → Fin n → Bool} (h : ∀ a b, a < b → B b a = B' b a) :
    sortedFrom B = sortedFrom B' := by
  funext k
  unfold sortedFrom
  have e : sortPositions n B = sortPositions n B' :=
    stableSort_of_increasing h _ (List.sortedLT_finRange n).pairwise
  rw [List.get_of_eq e]
  rfl

/-- "Served before", as a decision. -/
def earlierB (p : Fin n → EReal) (a b : Fin n) : Bool := decide (p a < p b) || (decide (p a = p b) && decide (a < b))

theorem earlierB_iff (p : Fin n → EReal) (a b : Fin n) : earlierB p a b = true ↔ Earlier p a b := by
  simp [earlierB, Earlier]

theorem strictTotal_earlierB (p : Fin n → EReal) : StrictTotalBefore (earlierB p) := by
  have := StrictTotalBefore.of_key_then_position (fun x y : EReal => decide (x < y)) p (by simp)
    (by simpa using fun a b c => lt_trans) (by simpa using fun a b => lt_trichotomy a b)
  exact (show earlierB p = _ from funext fun a => funext fun b => by unfold earlierB; congr 3) ▸ this

variable {p : Fin n → EReal} {B : Fin n → Fin n → Bool} (hB : ∀ a b, B a b = true ↔ p a < p b)
include hB

/-- Position `r'` of the price order comes before position `r` exactly when its capacity is served earlier. -/
theorem earlier_sortedFrom (r' r : Fin n) : Earlier p (sortedFrom B r') (sortedFrom B r) ↔ r' < r := by
  have e : sortedFrom B = sortedFrom (earlierB p) := sortedFrom_eq_of_later fun a b hab => by
    rw [Bool.eq_iff_iff, hB, earlierB_iff, Earlier]
    exact ⟨Or.inl, fun h => h.elim id fun h => absurd hab h.2.asymm⟩
  have hT := strictTotal_earlierB p
  have hno : ∀ i j : Fin n, i < j → earlierB p (sortedFrom (earlierB p) j) (sortedFrom (earlierB p) i) = false :=
    sortedFrom_noInversion _ _ (fun a b h => hT.asymm a b h) (fun _ _ h => h) hT.negTrans
  rw [e, ← earlierB_iff]
  constructor
  · intro h
    by_contra hlt
    rcases (not_lt.mp hlt).eq_or_lt with e | hgt
    · rw [e, hT.irrefl] at h; exact absurd h (by decide)
    · rw [hno _ _ hgt] at h; exact absurd h (by decide)
  · intro h
    rcases hT.total (sortedFrom (earlierB p) r') (sortedFrom (earlierB p) r)
      (fun e => h.ne (sortedFrom_injective _ e)) with h' | h'
    · exact h'
    · rw [hno _ _ h] at h'; exact absurd h' (by decide)

open Classical in
/-- The capacities at earlier positions of the price order add up to the capacities served earlier. -/
theorem sum_positions (cap : Fin n → EReal) (r : Fin n) :
    (∑ r', if r' < r then cap (sortedFrom B r') else 0) = ∑ a, if Earlier p a (sortedFrom B r) then cap a else 0 := by
  refine Eq.trans ?_ ((Equiv.ofBijective _ ⟨sortedFrom_injective B, sortedFrom_surjective B⟩).sum_comp
    fun a => if Earlier p a (sortedFrom B r) then cap a else 0)
  refine Finset.sum_congr rfl fun r' _ => ?_
  show _ = if Earlier p (sortedFrom B r') (sortedFrom B r) then cap (sortedFrom B r') else 0
  simp only [earlier_sortedFrom hB]

omit hB

/-- Sorting the positions by where a rearrangement `σ` sends them undoes `σ`. -/
theorem sortedFrom_inverse {σ : Fin n → Fin n} (hσ : Function.Bijective σ) {C : Fin n → Fin n → Bool}
    (hC : ∀ a b, C a b = true ↔ σ a < σ b) (g : Fin n) : σ (sortedFrom C g) = g := by
  have hno : ∀ i j : Fin n, i < j → C (sortedFrom C j) (sortedFrom C i) = false :=
    sortedFrom_noInversion _ _
      (fun a b h => by rw [Bool.eq_false_iff]; exact fun h' => ((hC a b).mp h).asymm ((hC b a).mp h'))
      (fun _ _ h => h)
      (fun a b c hab hbc => by
        rw [Bool.eq_false_iff, Ne, hC, not_lt] at *
        exact hbc.trans hab)
  have hmono : StrictMono fun g => σ (sortedFrom C g) := by
    intro i j hij
    have h := hno i j hij
    rw [Bool.eq_false_iff, Ne, hC, not_lt] at h
    exact lt_of_le_of_ne h fun e => hij.ne (sortedFrom_injective C (hσ.1 e))
  exact le_antisymm hmono.apply_le (hmono.le_apply)

/-! ## The running sum -/

/-- A left fold of additions from zero is the sum. -/
theorem foldl_add (m : ℕ) (f : Fin m → EReal) : (List.finRange m).foldl (fun r k => r + f k) 0 = ∑ k, f k := by
  rw [Fin.sum_univ_def, List.sum_eq_foldl, List.foldl_map]

/-- A window of `m + 1` places ending at place `r`, with nothing before place 0, adds up the places up to `r`. -/
theorem window_sum {m : ℕ} (x : Fin (m + 1) → EReal) (r : Fin (m + 1)) (f : Fin (m + 1) → EReal)
    (hin : ∀ (k r' : Fin (m + 1)), r.val + k.val = m + r'.val → f k = x r')
    (hout : ∀ k : Fin (m + 1), r.val + k.val < m → f k = 0) :
    ∑ k, f k = ∑ r', if r' ≤ r then x r' else 0 := by
  have e : ∑ k, f k = ∑ k ∈ Finset.univ.filter (fun k : Fin (m + 1) => m ≤ r.val + k.val), f k := by
    refine (Finset.sum_filter_of_ne fun k _ hk => ?_).symm
    by_contra hlt
    exact hk (hout k (not_le.mp hlt))
  rw [e, ← Finset.sum_filter]
  refine Finset.sum_bij' (fun k hk => ⟨r.val + k.val - m, by have := k.isLt; have := r.isLt; omega⟩)
    (fun r' hr' => ⟨m + r'.val - r.val, by
      have := (Finset.mem_filter.mp hr').2; have : r'.val ≤ r.val := this; have := r.isLt; omega⟩) ?_ ?_ ?_ ?_ ?_
  · intro k hk
    refine Finset.mem_filter.mpr ⟨Finset.mem_univ _, ?_⟩
    have := k.isLt
    show r.val + k.val - m ≤ r.val
    omega
  · intro r' hr'
    have h : r'.val ≤ r.val := (Finset.mem_filter.mp hr').2
    have := r.isLt
    refine Finset.mem_filter.mpr ⟨Finset.mem_univ _, ?_⟩
    show m ≤ r.val + (m + r'.val - r.val)
    omega
  · intro k hk
    have h := (Finset.mem_filter.mp hk).2
    apply Fin.ext
    show m + (r.val + k.val - m) - r.val = k.val
    omega
  · intro r' hr'
    have h : r'.val ≤ r.val := (Finset.mem_filter.mp hr').2
    have := r.isLt
    apply Fin.ext
    show r.val + (m + r'.val - r.val) - m = r'.val
    omega
  · intro k hk
    have h := (Finset.mem_filter.mp hk).2
    exact hin k _ (by show r.val + k.val = m + (r.val + k.val - m); omega)

/-- The running sum less its last term is the sum of the terms before it. -/
theorem running_sub_self {x : Fin n → EReal} (hx : ∀ i, Finite (x i)) (r : Fin n) :
    (∑ r', if r' ≤ r then x r' else 0) - x r = ∑ r', if r' < r then x r' else 0 := by
  have e : (∑ r', if r' ≤ r then x r' else 0) = (∑ r', if r' < r then x r' else 0) + x r := by
    have hs : x r = ∑ r', if r' = r then x r' else 0 := by simp
    conv_rhs => rw [hs]
    rw [← Finset.sum_add_distrib]
    refine Finset.sum_congr rfl fun r' _ => ?_
    rcases lt_trichotomy r' r with h | h | h
    · simp [h, h.le, h.ne]
    · simp [h]
    · simp [h.not_ge, h.asymm, h.ne']
  rw [e, ← (hx r).eq, EReal.add_sub_cancel_right]

/-! ## The two ways to the same number -/

/-- Sort, take the running sum, cut, and undo the sort: what each capacity serves in merit order. -/
theorem sorted_served (hB : ∀ a b, B a b = true ↔ p a < p b) {cap : Fin n → EReal} (hcap : ∀ i, Finite (cap i))
    (dem : EReal) (g r : Fin n) (hr : sortedFrom B r = g) :
    min (cap (sortedFrom B r)) (max 0 (dem - ((∑ r', if r' ≤ r then cap (sortedFrom B r') else 0) - cap (sortedFrom B r))))
      = served p dem cap g := by
  rw [running_sub_self (x := fun r => cap (sortedFrom B r)) (fun i => hcap _) r, sum_positions hB, hr, served]

open Classical in
/-- The weighted sum a row of the dispatch matrix takes: one for each capacity served earlier, less the last
    capacity, which is the demand itself. -/
theorem weighted_sum {m : ℕ} (p : Fin (m + 1) → EReal) {cap : Fin (m + 1) → EReal} (hcap : ∀ i, Finite (cap i))
    (g : Fin (m + 1)) :
    (∑ a, cap a * ((if Earlier p a g then (1 : EReal) else 0) - (if a = Fin.last m then 1 else 0)))
      = (∑ a, if Earlier p a g then cap a else 0) - cap (Fin.last m) := by
  obtain ⟨y, rfl⟩ := Finite.lift hcap
  have h1 : ∀ a, ((y a : EReal) * ((if Earlier p a g then (1 : EReal) else 0) - (if a = Fin.last m then 1 else 0)))
      = (((if Earlier p a g then y a else 0) - (if a = Fin.last m then y a else 0) : ℝ) : EReal) := by
    intro a
    rw [show (if Earlier p a g then (1 : EReal) else 0) = ((if Earlier p a g then (1 : ℝ) else 0 : ℝ) : EReal) by
        split <;> simp,
      show (if a = Fin.last m then (1 : EReal) else 0) = ((if a = Fin.last m then (1 : ℝ) else 0 : ℝ) : EReal) by
        split <;> simp, ← EReal.coe_sub, ← EReal.coe_mul]
    congr 1
    split <;> split <;> simp
  have h2 : ∀ a, (if Earlier p a g then (y a : EReal) else 0) = ((if Earlier p a g then y a else 0 : ℝ) : EReal) := by
    intro a; split <;> simp
  simp only [h1, h2]
  rw [coe_sum, coe_sum, ← EReal.coe_sub, Finset.sum_sub_distrib]
  simp

end Cert.Merit

end
-- ==== Proof.Spec.lean ====
/- What both programs compute, in plain mathematics: for every row and hour a demand is served in merit order from a
   hundred units and, last, from slack of the demand's own size; the objective is what all that costs. -/
module

public import proofs.«01_k».proof.Proof.Merit

@[expose] public section

noncomputable section

namespace Cert.Spec

open Cert.Merit

/-- The prices: a unit's price is the ratio times its base price, the slack has a price of its own. -/
def prices (ratio slack : EReal) (base : Fin 100 → EReal) (k : Fin 101) : EReal :=
  if h : k.val < 100 then ratio * base ⟨k.val, h⟩ else slack

/-- The capacities: a unit's reserve, and slack as large as the demand. -/
def caps (reserve : Fin 100 → EReal) (dem : EReal) (k : Fin 101) : EReal :=
  if h : k.val < 100 then reserve ⟨k.val, h⟩ else dem

/-- One hour of one row: what is taken from capacity `g`. -/
def take (price : Fin 101 → EReal) (reserve : Fin 100 → EReal) (dem : EReal) (g : Fin 101) : EReal :=
  served price dem (caps reserve dem) g

/-- What one row costs over its hours. -/
def cost (price : Fin 101 → EReal) (reserve : Fin 24 → Fin 100 → EReal) (dem : Fin 24 → EReal) : EReal :=
  ∑ g : Fin 101, ∑ t : Fin 24, take price (reserve t) (dem t) g * price g

/-- Unit `g` among the hundred and one capacities. -/
abbrev unit (g : Fin 100) : Fin 101 := ⟨g.val, by omega⟩

/-- The slack among the hundred and one capacities. -/
abbrev slackAt : Fin 101 := ⟨100, by decide⟩

theorem prices_unit (ratio slack : EReal) (base : Fin 100 → EReal) (g : Fin 100) :
    prices ratio slack base (unit g) = ratio * base g := dif_pos g.isLt

theorem prices_slack (ratio slack : EReal) (base : Fin 100 → EReal) : prices ratio slack base slackAt = slack :=
  dif_neg (by decide)

theorem caps_slack (reserve : Fin 100 → EReal) (dem : EReal) : caps reserve dem slackAt = dem := dif_neg (by decide)

theorem caps_finite {reserve : Fin 100 → EReal} {dem : EReal} (hr : ∀ k, Finite (reserve k)) (hd : Finite dem) (k : Fin 101) :
    Finite (caps reserve dem k) := by
  unfold caps; split
  · exact hr _
  · exact hd

theorem take_finite (price : Fin 101 → EReal) {reserve : Fin 100 → EReal} {dem : EReal} (hr : ∀ k, Finite (reserve k))
    (hd : Finite dem) (g : Fin 101) : Finite (take price reserve dem g) := by
  unfold take served
  refine (caps_finite hr hd g).min (Finite.zero.max (hd.sub (Finite.sum _ fun a => ?_)))
  split
  · exact caps_finite hr hd a
  · exact Finite.zero

/-- The slack taken is never negative when the demand is not. -/
theorem take_slack_nonneg (price : Fin 101 → EReal) (reserve : Fin 100 → EReal) {dem : EReal} (hd : 0 ≤ dem) :
    0 ≤ take price reserve dem slackAt := by
  unfold take served
  rw [caps_slack]
  exact le_min hd (le_max_left _ _)

/-- The cost, gathered: each unit's price times what the hours take from it together, and the slack's price times the
    hours' slack together. The slack's price may be anything, since the slack is not negative. -/
theorem cost_eq {ratio slack : EReal} {base : Fin 100 → EReal} {reserve : Fin 24 → Fin 100 → EReal} {dem : Fin 24 → EReal}
    (hratio : Finite ratio) (hbase : ∀ k, Finite (base k)) (hr : ∀ t k, Finite (reserve t k)) (hd : ∀ t, Finite (dem t))
    (hd0 : ∀ t, 0 ≤ dem t) :
    cost (prices ratio slack base) reserve dem =
      (∑ g : Fin 100, (ratio * base g) * ∑ t, take (prices ratio slack base) (reserve t) (dem t) (unit g))
        + slack * ∑ t, take (prices ratio slack base) (reserve t) (dem t) slackAt := by
  unfold cost
  rw [Fin.sum_univ_castSucc]
  refine congrArg₂ (· + ·) (Finset.sum_congr rfl fun g _ => ?_) ?_
  · rw [mul_sum_of_finite _ (hratio.mul (hbase g)) fun t => take_finite _ (hr t) (hd t) _]
    refine Finset.sum_congr rfl fun t _ => ?_
    show take _ (reserve t) (dem t) (unit g) * prices ratio slack base (unit g) = _
    rw [prices_unit]; exact EReal.mul_comm _ _
  · rw [mul_sum_of_nonneg _ slack fun t => take_slack_nonneg _ (reserve t) (hd0 t)]
    refine Finset.sum_congr rfl fun t _ => ?_
    show take _ (reserve t) (dem t) slackAt * prices ratio slack base slackAt = _
    rw [prices_slack]; exact EReal.mul_comm _ _

/-- The two costs together, in the order the reference adds: units up, units down, slack up, slack down. -/
theorem total_eq (a b c d : EReal) : (a + b) + (c + d) = ((a + c) + b) + d := by
  rw [add_assoc a c b, add_comm c b, ← add_assoc a b c, add_assoc (a + b) c d]

end Cert.Spec
-- ==== Proof.Bits.lean ====
/- A few facts about words and comparison bits that both programs' readings need. -/
module

public import Idealize.ShloMosaic.Lib.ValueIdx
public import Idealize.ShloMosaic.Lib.Pipeline.Value

@[expose] public section

noncomputable section

namespace Cert.Bits

open Idealize.ShloMosaic

theorem zero_bits : Ideal.ofBits .f32 0x00000000#32 = 0 := by simp [Ideal.ofBits, Ideal.ieee]

theorem ofBool_eq_one (b : Bool) : (BitVec.ofBool b == 1#1) = b := by cases b <;> rfl

/-- A small number as a word is that number, read signed. -/
theorem toInt_small {v : ℕ} (hv : v < 101) : (BitVec.ofNat 32 v).toInt = v := by
  rw [BitVec.toInt_eq_toNat_of_lt (by rw [BitVec.toNat_ofNat]; omega), BitVec.toNat_ofNat]
  omega

/-- Small numbers compare as words, read signed, as they do as numbers. -/
theorem slt_small {v w : ℕ} (hv : v < 101) (hw : w < 101) :
    (BitVec.ofNat 32 v).slt (BitVec.ofNat 32 w) = decide (v < w) := by
  rw [BitVec.slt, toInt_small hv, toInt_small hw]
  simp

/-- Small numbers are equal as words only when they are equal. -/
theorem eq_small {v w : ℕ} (hv : v < 101) (hw : w < 101) :
    (BitVec.ofNat 32 v == BitVec.ofNat 32 w) = decide (v = w) := by
  rw [Bool.eq_iff_iff, beq_iff_eq, decide_eq_true_iff]
  refine ⟨fun h => ?_, fun h => by rw [h]⟩
  have := congrArg BitVec.toInt h
  rw [toInt_small hv, toInt_small hw] at this
  exact_mod_cast this

/-- A truth value as a number. -/
theorem number_of_bool (b : Bool) : (((BitVec.ofBool b).toNat : ℝ) : EReal) = if b then 1 else 0 := by
  cases b <;> simp

theorem ofBool_and (a b : Bool) : BitVec.ofBool a &&& BitVec.ofBool b = BitVec.ofBool (a && b) := by
  cases a <;> cases b <;> rfl

theorem ofBool_or (a b : Bool) : BitVec.ofBool a ||| BitVec.ofBool b = BitVec.ofBool (a || b) := by
  cases a <;> cases b <;> rfl

end Cert.Bits

end
-- ==== Proof.MeritMatrix.lean ====
/- The matrix the kernel multiplies by: built on the host from the prices, one row and one column for every pair of a
   capacity and an hour. Between different hours it is zero; within an hour it is one where the row's capacity is served
   before the column's, and one less in the slack's row. -/
module

public import proofs.«01_k».proof.Proof.Gen.KernelIdeal.Frame
public import proofs.«01_k».proof.Proof.Spec
public import proofs.«01_k».proof.Proof.Bits

@[expose] public section

noncomputable section

namespace Cert.MeritMatrix

open Cert.KernelIdeal Cert.KernelIdeal.Gen Idealize.ShloMosaic Idealize.ShloMosaic.ValueIdx
open Cert.Merit Cert.Spec Cert.Bits

/-! ## Pairs of a capacity and an hour, laid flat -/

/-- Capacity `g` and hour `t` as one index. -/
abbrev flat (g : Fin 101) (t : Fin 24) : Fin 2424 := ⟨g.val * 24 + t.val, by omega⟩

/-- Every flat index is a capacity and an hour. -/
theorem exists_flat (n : Fin 2424) : ∃ g t, n = flat g t :=
  ⟨⟨n.val / 24, by omega⟩, ⟨n.val % 24, by omega⟩, Fin.ext (by show n.val = n.val / 24 * 24 + n.val % 24; omega)⟩

/-- A sum over flat indices is a sum over capacities and hours. -/
theorem sum_flat (f : Fin 2424 → EReal) : ∑ n, f n = ∑ g : Fin 101, ∑ t : Fin 24, f (flat g t) := by
  rw [← Fintype.sum_prod_type' (f := fun g t => f (flat g t)),
    ← Equiv.sum_comp (finProdFinEquiv (m := 101) (n := 24))]
  refine Finset.sum_congr rfl fun x _ => congrArg f (Fin.ext ?_)
  show x.2.val + 24 * x.1.val = x.1.val * 24 + x.2.val
  omega

section Layout

variable {α : Type}

/-- One value for each capacity, repeated over the hours. -/
def perCap (x : S101.Idx → α) : S2424.Idx → α :=
  fun i => shapeCast S2424 (broadcastInDim S101x24 ![0] bcast_S101_S101x24_0 x) shapeCasts_S101x24_S2424 i

/-- One value for each hour, repeated over the capacities. -/
def perHour (x : S24.Idx → α) : S2424.Idx → α :=
  fun i => shapeCast S2424 (broadcastInDim S101x24 ![0, 1] bcast_S1x24_S101x24_0_1
    (fun i => shapeCast S1x24 x shapeCasts_S24_S1x24 i)) shapeCasts_S101x24_S2424 i

/-- A vector down the rows. -/
def down (x : S2424.Idx → α) : S2424x1.Idx → α := broadcastInDim S2424x1 ![0] bcast_S2424_S2424x1_0 x

/-- A vector along the columns. -/
def across (x : S2424.Idx → α) : S1x2424.Idx → α := broadcastInDim S1x2424 ![1] bcast_S2424_S1x2424_1 x

/-- A column repeated along the rows. -/
def widen (x : S2424x1.Idx → α) : S2424x2424.Idx → α := broadcastInDim S2424x2424 ![0, 1] bcast_S2424x1_S2424x2424_0_1 x

/-- A row repeated down the columns. -/
def deepen (x : S1x2424.Idx → α) : S2424x2424.Idx → α := broadcastInDim S2424x2424 ![0, 1] bcast_S1x2424_S2424x2424_0_1 x

theorem flatten_apply (y : S101x24.Idx → α) (g : Fin 101) (t : Fin 24) :
    shapeCast S2424 y shapeCasts_S101x24_S2424 (ix1 (flat g t)) = y (ix2 g t) :=
  shapeCast_apply y shapeCasts_S101x24_S2424 _ (ix2 g t) (by
    rw [Shape.rowMajor_val_two, Shape.rowMajor_val_one]; rfl)

theorem perCap_apply (x : S101.Idx → α) (g : Fin 101) (t : Fin 24) : perCap x (ix1 (flat g t)) = x (ix1 g) := by
  unfold perCap
  rw [flatten_apply]
  exact broadcastInDim_apply _ bcast_S101_S101x24_0 x _ (ix1 g) (fun a => match a with
    | ⟨0, _⟩ => by show g.val = if (101 : Nat) = 1 then 0 else g.val; rw [if_neg (by decide)])

theorem perHour_apply (x : S24.Idx → α) (g : Fin 101) (t : Fin 24) : perHour x (ix1 (flat g t)) = x (ix1 t) := by
  unfold perHour
  rw [flatten_apply]
  rw [broadcastInDim_apply _ bcast_S1x24_S101x24_0_1 _ (ix2 g t) (ix2 (⟨0, by decide⟩ : Fin 1) t) (fun a => match a with
    | ⟨0, _⟩ => by show 0 = if (1 : Nat) = 1 then 0 else g.val; rw [if_pos rfl]
    | ⟨1, _⟩ => by show t.val = if (24 : Nat) = 1 then 0 else t.val; rw [if_neg (by decide)])]
  exact shapeCast_apply x shapeCasts_S24_S1x24 _ (ix1 t) (by
    rw [Shape.rowMajor_val_two, Shape.rowMajor_val_one]; show t.val = 0 * 24 + t.val; omega)

theorem down_apply (x : S2424.Idx → α) (j : Fin 2424) (o : Fin 1) : down x (ix2 j o) = x (ix1 j) :=
  broadcastInDim_apply _ bcast_S2424_S2424x1_0 x _ (ix1 j) (fun a => match a with
    | ⟨0, _⟩ => by show j.val = if (2424 : Nat) = 1 then 0 else j.val; rw [if_neg (by decide)])

theorem across_apply (x : S2424.Idx → α) (o : Fin 1) (n : Fin 2424) : across x (ix2 o n) = x (ix1 n) :=
  broadcastInDim_apply _ bcast_S2424_S1x2424_1 x _ (ix1 n) (fun a => match a with
    | ⟨0, _⟩ => by show n.val = if (2424 : Nat) = 1 then 0 else n.val; rw [if_neg (by decide)])

theorem widen_apply (x : S2424x1.Idx → α) (j n : Fin 2424) : widen x (ix2 j n) = x (ix2 j (⟨0, by decide⟩ : Fin 1)) :=
  broadcastInDim_apply _ bcast_S2424x1_S2424x2424_0_1 x _ (ix2 j (⟨0, by decide⟩ : Fin 1)) (fun a => match a with
    | ⟨0, _⟩ => by show j.val = if (2424 : Nat) = 1 then 0 else j.val; rw [if_neg (by decide)]
    | ⟨1, _⟩ => by show 0 = if (1 : Nat) = 1 then 0 else n.val; rw [if_pos rfl])

theorem deepen_apply (x : S1x2424.Idx → α) (j n : Fin 2424) : deepen x (ix2 j n) = x (ix2 (⟨0, by decide⟩ : Fin 1) n) :=
  broadcastInDim_apply _ bcast_S1x2424_S2424x2424_0_1 x _ (ix2 (⟨0, by decide⟩ : Fin 1) n) (fun a => match a with
    | ⟨0, _⟩ => by show 0 = if (1 : Nat) = 1 then 0 else j.val; rw [if_pos rfl]
    | ⟨1, _⟩ => by show n.val = if (2424 : Nat) = 1 then 0 else n.val; rw [if_neg (by decide)])

end Layout

/-! ## The matrix -/

/-- The capacities' numbers. -/
def capIds : IVec S2424 32 := perCap (iotaInDim S101 32 0)

/-- The hours' numbers. -/
def hourIds : IVec S2424 32 := perHour (iotaInDim S24 32 0)

/-- The matrix, from the prices. -/
def matrix (p : FVec Ideal S101 .f32) : FVec Ideal S2424x2424 .bf16 :=
  truncf .bf16
    (select (cmpi .eq (widen (down hourIds)) (deepen (across hourIds)))
      (subf
        (uitofp .f32
          (ori (cmpf .olt (widen (down (perCap p))) (deepen (across (perCap p))))
            (andi (cmpf .oeq (widen (down (perCap p))) (deepen (across (perCap p))))
              (cmpi .slt (widen (down capIds)) (deepen (across capIds))))))
        (widen (uitofp .f32
          (cmpi .eq (down capIds) (broadcastInDim S2424x1 ![] bcast_S_S2424x1 (constantI S_ 32 100#32))))))
      (broadcastInDim S2424x2424 ![] bcast_S_S2424x2424 (id (constant (F := Ideal) S_ .f32 0x00000000#32))))
    bitsLt_bf16_f32

theorem capIds_apply (g : Fin 101) (t : Fin 24) : capIds (ix1 (flat g t)) = BitVec.ofNat 32 g.val := perCap_apply _ g t

theorem hourIds_apply (g : Fin 101) (t : Fin 24) : hourIds (ix1 (flat g t)) = BitVec.ofNat 32 t.val := perHour_apply _ g t

open Classical in
/-- The matrix's entry between capacity `a` in hour `s` and capacity `g` in hour `t`. -/
theorem matrix_apply (p : FVec Ideal S101 .f32) (a g : Fin 101) (s t : Fin 24) :
    matrix p (ix2 (flat a s) (flat g t)) =
      if s = t then (if Earlier (fun k => p (ix1 k)) a g then (1 : EReal) else 0) - (if a = slackAt then 1 else 0) else 0 := by
  show (Scalar.select (BitVec.ofBool (widen (down hourIds) (ix2 (flat a s) (flat g t)) == deepen (across hourIds) (ix2 (flat a s) (flat g t))))
    ((((BitVec.ofBool (decide (widen (down (perCap p)) (ix2 (flat a s) (flat g t)) < deepen (across (perCap p)) (ix2 (flat a s) (flat g t))))
        ||| (BitVec.ofBool (decide (widen (down (perCap p)) (ix2 (flat a s) (flat g t)) = deepen (across (perCap p)) (ix2 (flat a s) (flat g t))))
          &&& BitVec.ofBool ((widen (down capIds) (ix2 (flat a s) (flat g t))).slt (deepen (across capIds) (ix2 (flat a s) (flat g t)))))).toNat : ℝ) : EReal)
      - widen (uitofp (F := Ideal) .f32 (cmpi .eq (down capIds) (broadcastInDim S2424x1 ![] bcast_S_S2424x1 (constantI S_ 32 100#32)))) (ix2 (flat a s) (flat g t)))
    (Ideal.ofBits .f32 0x00000000#32) : EReal) = _
  simp only [widen_apply, deepen_apply]
  have hlast : (uitofp (F := Ideal) .f32 (cmpi .eq (down capIds) (broadcastInDim S2424x1 ![] bcast_S_S2424x1 (constantI S_ 32 100#32))))
      (ix2 (flat a s) (⟨0, by decide⟩ : Fin 1)) = ((((BitVec.ofBool (down capIds (ix2 (flat a s) (⟨0, by decide⟩ : Fin 1)) == BitVec.ofNat 32 100)).toNat : ℝ)) : EReal) := rfl
  rw [hlast]
  simp only [down_apply, across_apply, capIds_apply, hourIds_apply, perCap_apply]
  rw [slt_small a.isLt g.isLt, eq_small (show s.val < 101 by omega) (show t.val < 101 by omega), eq_small a.isLt (by decide),
    ofBool_and, ofBool_or, number_of_bool, number_of_bool, zero_bits]
  have e1 : ((decide (p (ix1 a) < p (ix1 g)) || (decide (p (ix1 a) = p (ix1 g)) && decide (a.val < g.val))) = true)
      ↔ Earlier (fun k => p (ix1 k)) a g := by
    simp [Earlier]
  have e2 : (decide (a.val = 100) = true) ↔ a = slackAt := by
    rw [decide_eq_true_iff, Fin.ext_iff]
  by_cases hst : s = t
  · rw [if_pos hst, show decide (s.val = t.val) = true from decide_eq_true (congrArg Fin.val hst)]
    show (if _ then (1 : EReal) else 0) - (if _ then 1 else 0) = _
    simp only [e1, e2]
  · rw [if_neg hst, show decide (s.val = t.val) = false from decide_eq_false fun h => hst (Fin.ext h)]
    rfl

/-! ## One row times the matrix -/

/-- A row's capacities times the matrix, at capacity `g` in hour `t`: everything served before, less the slack. -/
theorem row_times_matrix (p : FVec Ideal S101 .f32) (cap : Fin 101 → Fin 24 → EReal) (hcap : ∀ a s, Finite (cap a s))
    (x : Fin 2424 → EReal) (hx : ∀ a s, x (flat a s) = cap a s) (g : Fin 101) (t : Fin 24) :
    ∑ j, x j * matrix p (ix2 j (flat g t)) =
      (open Classical in ∑ a, if Earlier (fun k => p (ix1 k)) a g then cap a t else 0) - cap slackAt t := by
  classical
  rw [sum_flat]
  refine Eq.trans ?_ (weighted_sum (m := 100) (fun k => p (ix1 k)) (cap := fun a => cap a t) (fun a => hcap a t) g)
  refine Finset.sum_congr rfl fun a _ => ?_
  rw [Finset.sum_eq_single t]
  · rw [hx, matrix_apply, if_pos rfl]; rfl
  · intro s _ hs
    rw [matrix_apply, if_neg hs, mul_zero]
  · intro h; exact absurd (Finset.mem_univ _) h

/-- A row of zeros times the matrix. -/
theorem zeros_times_matrix (p : FVec Ideal S101 .f32) (x : Fin 2424 → EReal) (hx : ∀ j, x j = 0) (n : Fin 2424) :
    ∑ j, x j * matrix p (ix2 j n) = 0 :=
  Finset.sum_eq_zero fun j _ => by rw [hx, zero_mul]

end Cert.MeritMatrix

end
-- ==== Proof.Block.lean ====
/- What one grid point computes from its blocks: 256 rows of demands and reserves against the whole matrix. Each of the
   256 rows is dispatched in merit order, and costs what the specification says. -/
module

public import proofs.«01_k».proof.Proof.MeritMatrix
public import Idealize.ShloMosaic.Lib.MatmulPlain

@[expose] public section

noncomputable section

namespace Cert.Block

open Cert.KernelIdeal Cert.KernelIdeal.Gen Idealize.ShloMosaic Idealize.ShloMosaic.ValueIdx
open Cert.Merit Cert.Spec Cert.Bits Cert.MeritMatrix

/-- Unit `g` and hour `t` as one index. -/
abbrev flatUnit (g : Fin 100) (t : Fin 24) : Fin 2400 := ⟨g.val * 24 + t.val, by omega⟩

/-- The capacities: the reserves beside the demands. -/
def capacities (R : FVec Ideal S256x2400 .f32) (dem : FVec Ideal S256x24 .f32) : FVec Ideal S256x2424 .f32 :=
  concatenate S256x2424 1 [⟨S256x2400, R⟩, ⟨S256x24, dem⟩] concatenates_S256x2400_S256x24_S256x2424_d1

theorem capacities_apply (R : FVec Ideal S256x2400 .f32) (dem : FVec Ideal S256x24 .f32) (r : Fin 256) (a : Fin 101) (s : Fin 24) :
    capacities R dem (ix2 r (flat a s)) = caps (fun k => R (ix2 r (flatUnit k s))) (dem (ix2 r s)) a := by
  unfold capacities caps
  split
  · rename_i h
    exact concatenate_pair_apply_left (1 : Fin 2) R dem concatenates_S256x2400_S256x24_S256x2424_d1 (ix2 r (flat a s)) rfl
      (ix2 r (flatUnit ⟨a.val, h⟩ s)) (fun b => match b with | ⟨0, _⟩ => rfl | ⟨1, _⟩ => rfl)
  · rename_i h
    exact concatenate_pair_apply_right (1 : Fin 2) R dem concatenates_S256x2400_S256x24_S256x2424_d1 (ix2 r (flat a s)) rfl rfl
      (ix2 r s) (fun b hb => match b, hb with | ⟨0, _⟩, _ => rfl | ⟨1, _⟩, hb => absurd rfl hb)
      (by show s.val + 2400 = a.val * 24 + s.val; have := a.isLt; omega)

/-- The capacities stacked on what rounding them loses. -/
def stacked (X : FVec Ideal S256x2424 .f32) : FVec Ideal S512x2424 .bf16 :=
  concatenate S512x2424 0 [⟨S256x2424, truncf .bf16 X bitsLt_bf16_f32⟩,
    ⟨S256x2424, truncf .bf16 (subf X (extf .f32 (truncf .bf16 X bitsLt_bf16_f32) bitsLt_bf16_f32)) bitsLt_bf16_f32⟩]
    concatenates_S256x2424_S256x2424_S512x2424_d0

theorem stacked_top (X : FVec Ideal S256x2424 .f32) (r : Fin 256) (n : Fin 2424) :
    stacked X (ix2 (⟨r.val, by omega⟩ : Fin 512) n) = X (ix2 r n) :=
  concatenate_pair_apply_left (s₁ := S256x2424) (s₂ := S256x2424) (0 : Fin 2) _ _ concatenates_S256x2424_S256x2424_S512x2424_d0
    (ix2 (⟨r.val, by omega⟩ : Fin 512) n) rfl (ix2 r n) (fun b => match b with | ⟨0, _⟩ => rfl | ⟨1, _⟩ => rfl)

/-- Over the extended reals nothing is lost: the lower half is a difference of equals. -/
theorem stacked_bottom (X : FVec Ideal S256x2424 .f32) (r : Fin 256) (n : Fin 2424) :
    stacked X (ix2 (⟨256 + r.val, by omega⟩ : Fin 512) n) = (X (ix2 r n) - X (ix2 r n) : EReal) :=
  concatenate_pair_apply_right (s₁ := S256x2424) (s₂ := S256x2424) (0 : Fin 2) _ _ concatenates_S256x2424_S256x2424_S512x2424_d0
    (ix2 (⟨256 + r.val, by omega⟩ : Fin 512) n) rfl rfl (ix2 r n) (fun b hb => match b, hb with | ⟨0, _⟩, hb => absurd rfl hb | ⟨1, _⟩, _ => rfl)
    (by show r.val + 256 = 256 + r.val; omega)

/-- The stacked capacities times a matrix. -/
def product (X : FVec Ideal S256x2424 .f32) (W : FVec Ideal S2424x2424 .bf16) : FVec Ideal S512x2424 .f32 :=
  matmul dot_S512x2424_S2424x2424_S512x2424_1_0_0_1_n_n none (stacked X) W (constant S512x2424 .f32 0x00000000#32)

theorem product_apply (X : FVec Ideal S256x2424 .f32) (W : FVec Ideal S2424x2424 .bf16) (q : Fin 512) (n : Fin 2424) :
    product X W (ix2 q n) = ∑ j : Fin 2424, stacked X (ix2 q j) * W (ix2 j n) := by
  have e := Ideal.matmul_plain_apply (M := 512) (K := 2424) (N := 2424) none (stacked X) W
    (constant S512x2424 .f32 0x00000000#32) q n
  have z : (constant (F := Ideal) S512x2424 .f32 0x00000000#32) (ix2 q n) = (0 : EReal) := zero_bits
  rw [z, zero_add] at e
  exact e

/-- The dispatch of a block of rows, as the kernel writes it: the halves of the product added, taken from zero, cut. -/
def dispatch (X : FVec Ideal S256x2424 .f32) (W : FVec Ideal S2424x2424 .bf16) : FVec Ideal S256x2424 .f32 :=
  minimumf X (maximumf (broadcast S256x2424 (Scalar.ofBits (F := Ideal) .f32 0x00000000#32))
    (subf (broadcast S256x2424 (Scalar.ofBits (F := Ideal) .f32 0x00000000#32))
      (addf (extractStridedSlice S256x2424 ![0, 0] (product X W) slices_S512x2424_o0_0_S256x2424)
        (extractStridedSlice S256x2424 ![256, 0] (product X W) slices_S512x2424_o256_0_S256x2424))))

/-- Each row of the block is dispatched in merit order. -/
theorem dispatch_apply (p : FVec Ideal S101 .f32) (R : FVec Ideal S256x2400 .f32) (dem : FVec Ideal S256x24 .f32) (r : Fin 256)
    (hR : ∀ n, Finite (R (ix2 r n))) (hdem : ∀ s, Finite (dem (ix2 r s))) (g : Fin 101) (t : Fin 24) :
    dispatch (capacities R dem) (matrix p) (ix2 r (flat g t)) =
      take (fun k => p (ix1 k)) (fun k => R (ix2 r (flatUnit k t))) (dem (ix2 r t)) g := by
  classical
  have hfin : ∀ a s, Finite (caps (fun k => R (ix2 r (flatUnit k s))) (dem (ix2 r s)) a) := fun a s =>
    caps_finite (fun k => hR _) (hdem s) a
  have htop : extractStridedSlice S256x2424 ![0, 0] (product (capacities R dem) (matrix p)) slices_S512x2424_o0_0_S256x2424 (ix2 r (flat g t))
      = ((∑ a, if Earlier (fun k => p (ix1 k)) a g then caps (fun k => R (ix2 r (flatUnit k t))) (dem (ix2 r t)) a else 0)
          - dem (ix2 r t) : EReal) := by
    rw [extractStridedSlice_apply _ _ slices_S512x2424_o0_0_S256x2424 (ix2 r (flat g t)) (ix2 (⟨r.val, by omega⟩ : Fin 512) (flat g t))
      (fun a => match a with
        | ⟨0, _⟩ => by show r.val = 0 + r.val; omega
        | ⟨1, _⟩ => by show g.val * 24 + t.val = 0 + (g.val * 24 + t.val); omega), product_apply,
      row_times_matrix p (fun a s => caps (fun k => R (ix2 r (flatUnit k s))) (dem (ix2 r s)) a) hfin
        (fun j => stacked (capacities R dem) (ix2 (⟨r.val, by omega⟩ : Fin 512) j))
        (fun a s => by rw [stacked_top, capacities_apply]) g t, caps_slack]
  have hbot : extractStridedSlice S256x2424 ![256, 0] (product (capacities R dem) (matrix p)) slices_S512x2424_o256_0_S256x2424 (ix2 r (flat g t))
      = (0 : EReal) := by
    rw [extractStridedSlice_apply _ _ slices_S512x2424_o256_0_S256x2424 (ix2 r (flat g t)) (ix2 (⟨256 + r.val, by omega⟩ : Fin 512) (flat g t))
      (fun a => match a with
        | ⟨0, _⟩ => rfl
        | ⟨1, _⟩ => by show g.val * 24 + t.val = 0 + (g.val * 24 + t.val); omega), product_apply]
    refine zeros_times_matrix p (fun j => stacked (capacities R dem) (ix2 (⟨256 + r.val, by omega⟩ : Fin 512) j)) (fun j => ?_) _
    obtain ⟨a, s, rfl⟩ := exists_flat j
    rw [stacked_bottom, capacities_apply]
    exact (hfin a s).sub_self
  have e : dispatch (capacities R dem) (matrix p) (ix2 r (flat g t)) =
      min (capacities R dem (ix2 r (flat g t))) (max (Ideal.ofBits .f32 0x00000000#32) (Ideal.ofBits .f32 0x00000000#32 -
        (extractStridedSlice S256x2424 ![0, 0] (product (capacities R dem) (matrix p)) slices_S512x2424_o0_0_S256x2424 (ix2 r (flat g t))
          + extractStridedSlice S256x2424 ![256, 0] (product (capacities R dem) (matrix p)) slices_S512x2424_o256_0_S256x2424 (ix2 r (flat g t))))) := rfl
  rw [e, htop, hbot, zero_bits, capacities_apply, add_zero, zero_sub]
  have hs : Finite (∑ a, if Earlier (fun k => p (ix1 k)) a g then caps (fun k => R (ix2 r (flatUnit k t))) (dem (ix2 r t)) a else 0) :=
    Finite.sum _ fun a => by split; exact hfin a t; exact Finite.zero
  rw [EReal.neg_sub (.inl hs.2) (.inl hs.1)]
  unfold take served
  rw [add_comm, ← sub_eq_add_neg]

/-- The prices as the kernel is given them: along one row, each repeated over the hours. -/
def priceRow (p : FVec Ideal S101 .f32) : FVec Ideal S1x2424 .f32 := across (perCap p)

/-- The cost of each row of a block: what is taken times the prices, summed. -/
def costs (Y : FVec Ideal S256x2424 .f32) (q : FVec Ideal S1x2424 .f32) : FVec Ideal S256 .f32 :=
  multiReduction .add [1] S256 (mulf Y (broadcastTo S256x2424 q broadcasts_S1x2424_S256x2424)) 0x00000000#32
    reduces_S256x2424_S256 (.inl rfl) rfl

theorem costs_apply (Y : FVec Ideal S256x2424 .f32) (p : FVec Ideal S101 .f32) (r : Fin 256) :
    costs Y (priceRow p) (ix1 r) = ∑ g : Fin 101, ∑ t : Fin 24, Y (ix2 r (flat g t)) * p (ix1 g) := by
  unfold costs
  refine (Ideal.multiReduction_add_single _ _ reduces_S256x2424_S256 _ _ _).trans (Eq.trans ?_ ((sum_flat fun n => (Y (ix2 r n) * perCap p (ix1 n) : EReal)).trans
    (Finset.sum_congr rfl fun g _ => Finset.sum_congr rfl fun t _ => by rw [perCap_apply])))
  refine Finset.sum_congr rfl fun n _ => ?_
  have hl : (reduces_S256x2424_S256.lift (ix1 r) n) = ix2 r n :=
    funext fun a => Fin.ext (by match a with | ⟨0, _⟩ => rfl | ⟨1, _⟩ => rfl)
  rw [hl]
  show (Y (ix2 r n) * broadcastTo S256x2424 (priceRow p) broadcasts_S1x2424_S256x2424 (ix2 r n) : EReal) = _
  rw [broadcastTo_apply (priceRow p) broadcasts_S1x2424_S256x2424 (ix2 r n) (ix2 (⟨0, by decide⟩ : Fin 1) n) (fun a => match a with
    | ⟨0, _⟩ => by show 0 = if (1 : Nat) = 1 then 0 else r.val; rw [if_pos rfl]
    | ⟨1, _⟩ => by show n.val = if (2424 : Nat) = 1 then 0 else n.val; rw [if_neg (by decide)])]
  exact congrArg (fun z : EReal => (Y (ix2 r n) * z : EReal)) (across_apply (perCap p) _ n)

/-! ## The values the kernel stores -/

/-- The positive part of a block of demands. -/
def positive (v : FVec Ideal S256x24 .f32) : FVec Ideal S256x24 .f32 :=
  maximumf v (broadcast S256x24 (Scalar.ofBits (F := Ideal) .f32 0x00000000#32))

theorem positive_apply (v : FVec Ideal S256x24 .f32) (i : S256x24.Idx) : positive v i = max (v i) 0 := by
  show max (v i) (Ideal.ofBits .f32 0x00000000#32) = _
  rw [zero_bits]

theorem negative_apply (v : FVec Ideal S256x24 .f32) (i : S256x24.Idx) : k0_pay9 (F := Ideal) v i = max (-(v i)) 0 := by
  show max (Ideal.ofBits .f32 0x00000000#32 - v i) (Ideal.ofBits .f32 0x00000000#32) = _
  rw [zero_bits, zero_sub]

/-- The dispatch upwards is the same function as the dispatch downwards, of the positive part. -/
theorem pay1_eq (d : FVec Ideal S256x24 .f32) (R : FVec Ideal S256x2400 .f32) (W : FVec Ideal S2424x2424 .bf16) :
    k0_pay1 (F := Ideal) d R W = dispatch (capacities R d) W := by
  unfold k0_pay1
  rw [shapeCast_self, shapeCast_self]
  rfl

theorem pay5_eq (v : FVec Ideal S256x24 .f32) (R : FVec Ideal S256x2400 .f32) (W : FVec Ideal S2424x2424 .bf16) :
    k0_pay5 (F := Ideal) v R W = dispatch (capacities R (positive v)) W := by
  unfold k0_pay5
  rw [shapeCast_self, shapeCast_self]
  rfl

/-- The units' columns of a block. -/
theorem units_apply (Y : FVec Ideal S256x2424 .f32) (r : Fin 256) (g : Fin 100) (t : Fin 24) :
    extractStridedSlice S256x2400 ![0, 0] Y slices_S256x2424_o0_0_S256x2400 (ix2 r (flatUnit g t)) = Y (ix2 r (flat (unit g) t)) :=
  extractStridedSlice_apply _ _ slices_S256x2424_o0_0_S256x2400 _ _ (fun a => match a with
    | ⟨0, _⟩ => by show r.val = 0 + r.val; omega
    | ⟨1, _⟩ => by show g.val * 24 + t.val = 0 + (g.val * 24 + t.val); omega)

/-- The slack's columns of a block. -/
theorem slack_apply (Y : FVec Ideal S256x2424 .f32) (r : Fin 256) (t : Fin 24) :
    extractStridedSlice S256x24 ![0, 2400] Y slices_S256x2424_o0_2400_S256x24 (ix2 r t) = Y (ix2 r (flat slackAt t)) :=
  extractStridedSlice_apply _ _ slices_S256x2424_o0_2400_S256x24 _ _ (fun a => match a with
    | ⟨0, _⟩ => by show r.val = 0 + r.val; omega
    | ⟨1, _⟩ => by show 100 * 24 + t.val = 2400 + t.val; omega)

section Values

variable (pU pD : FVec Ideal S101 .f32) (w : FVec Ideal S256x24 .f32) (RU RD : FVec Ideal S256x2400 .f32) (r : Fin 256)
  (hw : ∀ s, Finite (w (ix2 r s))) (hU : ∀ n, Finite (RU (ix2 r n))) (hD : ∀ n, Finite (RD (ix2 r n)))

/-- One row of the block upwards. -/
abbrev rowUp (t : Fin 24) : Fin 101 → EReal :=
  take (fun k => pU (ix1 k)) (fun k => RU (ix2 r (flatUnit k t))) (max (w (ix2 r t)) 0)

/-- One row of the block downwards. -/
abbrev rowDn (t : Fin 24) : Fin 101 → EReal :=
  take (fun k => pD (ix1 k)) (fun k => RD (ix2 r (flatUnit k t))) (max (-(w (ix2 r t))) 0)

include hw hU in
theorem up_apply (g : Fin 101) (t : Fin 24) : k0_pay5 (F := Ideal) w RU (matrix pU) (ix2 r (flat g t)) = rowUp pU w RU r t g := by
  rw [pay5_eq, dispatch_apply pU RU (positive w) r hU (fun s => by rw [positive_apply]; exact (hw s).max Finite.zero), positive_apply]

include hw hD in
theorem dn_apply (g : Fin 101) (t : Fin 24) : k0_pay1 (F := Ideal) (k0_pay9 (F := Ideal) w) RD (matrix pD) (ix2 r (flat g t)) = rowDn pD w RD r t g := by
  rw [pay1_eq, dispatch_apply pD RD (k0_pay9 (F := Ideal) w) r hD (fun s => by rw [negative_apply]; exact (hw s).neg.max Finite.zero), negative_apply]

include hw hU in
theorem du_apply (g : Fin 100) (t : Fin 24) : k0_pay7 (F := Ideal) w RU (matrix pU) (ix2 r (flatUnit g t)) = rowUp pU w RU r t (unit g) :=
  (units_apply _ r g t).trans (up_apply pU w RU r hw hU _ t)

include hw hD in
theorem dd_apply (g : Fin 100) (t : Fin 24) :
    k0_pay2 (F := Ideal) (k0_pay9 (F := Ideal) w) RD (matrix pD) (ix2 r (flatUnit g t)) = rowDn pD w RD r t (unit g) :=
  (units_apply _ r g t).trans (dn_apply pD w RD r hw hD _ t)

include hw hU in
theorem ls_apply (t : Fin 24) : k0_pay8 (F := Ideal) w RU (matrix pU) (ix2 r t) = rowUp pU w RU r t slackAt :=
  (slack_apply _ r t).trans (up_apply pU w RU r hw hU _ t)

include hw hD in
theorem sp_apply (t : Fin 24) : k0_pay3 (F := Ideal) (k0_pay9 (F := Ideal) w) RD (matrix pD) (ix2 r t) = rowDn pD w RD r t slackAt :=
  (slack_apply _ r t).trans (dn_apply pD w RD r hw hD _ t)

include hw hU hD in
theorem obj_apply (o : Fin 1) :
    k0_pay4 (F := Ideal) (k0_pay6 (F := Ideal) w RU (matrix pU) (priceRow pU)) (k0_pay9 (F := Ideal) w) RD (matrix pD) (priceRow pD) (ix2 r o) =
      cost (fun k => pU (ix1 k)) (fun t k => RU (ix2 r (flatUnit k t))) (fun t => max (w (ix2 r t)) 0)
        + cost (fun k => pD (ix1 k)) (fun t k => RD (ix2 r (flatUnit k t))) (fun t => max (-(w (ix2 r t))) 0) := by
  have e : k0_pay4 (F := Ideal) (k0_pay6 (F := Ideal) w RU (matrix pU) (priceRow pU)) (k0_pay9 (F := Ideal) w) RD (matrix pD) (priceRow pD) =
      shapeCast S256x1 (addf (costs (k0_pay5 (F := Ideal) w RU (matrix pU)) (priceRow pU)) (costs (k0_pay1 (F := Ideal) (k0_pay9 (F := Ideal) w) RD (matrix pD)) (priceRow pD)))
        shapeCasts_S256_S256x1 := by
    unfold k0_pay4 k0_pay6
    rw [shapeCast_self, shapeCast_self]
    rfl
  rw [e, shapeCast_apply _ shapeCasts_S256_S256x1 (ix2 r o) (ix1 r) (by
    rw [Shape.rowMajor_val_two, Shape.rowMajor_val_one]; show r.val = r.val * 1 + o.val; omega)]
  show (costs _ (priceRow pU) (ix1 r) + costs _ (priceRow pD) (ix1 r) : EReal) = _
  rw [costs_apply, costs_apply]
  unfold cost
  refine congrArg₂ (· + ·) ?_ ?_
  · refine Finset.sum_congr rfl fun g _ => Finset.sum_congr rfl fun t _ => ?_
    rw [up_apply pU w RU r hw hU]
  · refine Finset.sum_congr rfl fun g _ => Finset.sum_congr rfl fun t _ => ?_
    rw [dn_apply pD w RD r hw hD]

end Values

end Cert.Block

end
-- ==== Proof.HostPrefix.lean ====
/- What the kernel's host operations leave in the arrays the grid reads: the matrix and the prices' row of each
   direction, and the reserves with units and hours laid flat. -/
module

public import proofs.«01_k».proof.Proof.Block

@[expose] public section

noncomputable section

namespace Cert.HostPrefix

open Cert.KernelIdeal Cert.KernelIdeal.Gen Idealize.ShloMosaic Idealize.ShloMosaic.ValueIdx
open Idealize.ShloMosaic.StableHlo Idealize.ShloMosaic.TcCoe
open Cert.Merit Cert.Spec Cert.MeritMatrix Cert.Block

/-! ## The prices -/

/-- The units' prices followed by the slack's. -/
def joined (ratio : FVec Ideal S_ .f32) (base : FVec Ideal S100 .f32) (slack : FVec Ideal S_ .f32) : FVec Ideal S101 .f32 :=
  concatenate S101 0 [⟨S100, mulf (broadcastInDim S100 ![] bcast_S_S100 ratio) base⟩, ⟨S1, broadcastInDim S1 ![] bcast_S_S1 slack⟩]
    concatenates_S100_S1_S101_d0

theorem joined_apply (ratio : FVec Ideal S_ .f32) (base : FVec Ideal S100 .f32) (slack : FVec Ideal S_ .f32) (k : Fin 101) :
    joined ratio base slack (ix1 k) = prices (ratio ix0) (slack ix0) (fun g => base (ix1 g)) k := by
  unfold joined prices
  split
  · rename_i h
    rw [concatenate_pair_apply_left (s₁ := S100) (s₂ := S1) (0 : Fin 1) _ _ concatenates_S100_S1_S101_d0 (ix1 k) rfl
      (ix1 (⟨k.val, h⟩ : Fin 100)) (fun b => match b with | ⟨0, _⟩ => rfl)]
    exact congrArg (fun z : EReal => (z * base (ix1 ⟨k.val, h⟩) : EReal))
      (broadcastInDim_apply _ bcast_S_S100 ratio _ ix0 (fun a => a.elim0))
  · rename_i h
    rw [concatenate_pair_apply_right (s₁ := S100) (s₂ := S1) (0 : Fin 1) _ _ concatenates_S100_S1_S101_d0 (ix1 k) rfl rfl
      (ix1 (⟨0, by decide⟩ : Fin 1)) (fun b hb => match b, hb with | ⟨0, _⟩, hb => absurd rfl hb)
      (by show 0 + 100 = k.val; omega)]
    exact broadcastInDim_apply _ bcast_S_S1 slack _ ix0 (fun a => a.elim0)

/-- The reserves laid flat, at a unit and an hour. -/
theorem flat_reserves_apply (R : FVec Ideal S4096x100x24 .f32) (b : Fin 4096) (g : Fin 100) (t : Fin 24) :
    shapeCast S4096x2400 R shapeCasts_S4096x100x24_S4096x2400 (ix2 b (flatUnit g t)) = R (ix3 b g t) :=
  shapeCast_apply R shapeCasts_S4096x100x24_S4096x2400 _ _ (by
    rw [Shape.rowMajor_val_two, Shape.rowMajor_val_three]
    show (b.val * 100 + g.val) * 24 + t.val = b.val * 2400 + (g.val * 24 + t.val)
    omega)

/-! ## The arrays when the grid is entered -/

variable (m : (ℓ : Loc nD τ sig) → Buf (Elt Ideal) ℓ) (c : Dev nD)

/-- The prices upwards, from the arguments. -/
abbrev pUp : FVec Ideal S101 .f32 :=
  joined (m ((c.tc : Thread nD τ).loc main_arg6)) (m ((c.tc : Thread nD τ).loc main_arg3)) (m ((c.tc : Thread nD τ).loc main_arg4))

/-- The prices downwards, from the arguments. -/
abbrev pDn : FVec Ideal S101 .f32 :=
  joined (m ((c.tc : Thread nD τ).loc main_arg7)) (m ((c.tc : Thread nD τ).loc main_arg3)) (m ((c.tc : Thread nD τ).loc main_arg5))

theorem V_reserves_up : V m c main_v94 = shapeCast S4096x2400 (m ((c.tc : Thread nD τ).loc main_arg0)) shapeCasts_S4096x100x24_S4096x2400 := by
  simp only [V, V0, List.flatten_cons, List.flatten_nil, List.cons_append, List.nil_append, List.append_nil, TRef.ternary,
    TRef.unary, TRef.toBuf, TRef.ofBuf, cast_eq]
  after_results_simp
  rfl

theorem V_reserves_dn : V m c main_v95 = shapeCast S4096x2400 (m ((c.tc : Thread nD τ).loc main_arg1)) shapeCasts_S4096x100x24_S4096x2400 := by
  simp only [V, V0, List.flatten_cons, List.flatten_nil, List.cons_append, List.nil_append, List.append_nil, TRef.ternary,
    TRef.unary, TRef.toBuf, TRef.ofBuf, cast_eq]
  after_results_simp
  rfl

theorem V_row_up : V m c main_v90 = priceRow (pUp m c) := by
  simp only [V, V0, List.flatten_cons, List.flatten_nil, List.cons_append, List.nil_append, List.append_nil, TRef.ternary,
    TRef.unary, TRef.toBuf, TRef.ofBuf, cast_eq]
  after_results_simp
  rfl

theorem V_row_dn : V m c main_v93 = priceRow (pDn m c) := by
  simp only [V, V0, List.flatten_cons, List.flatten_nil, List.cons_append, List.nil_append, List.append_nil, TRef.ternary,
    TRef.unary, TRef.toBuf, TRef.ofBuf, cast_eq]
  after_results_simp
  rfl

theorem V_matrix_up : V m c main_v47 = matrix (pUp m c) := by
  simp only [V, V0, List.flatten_cons, List.flatten_nil, List.cons_append, List.nil_append, List.append_nil, TRef.ternary,
    TRef.unary, TRef.toBuf, TRef.ofBuf, cast_eq]
  after_results_simp
  rfl

theorem V_matrix_dn : V m c main_v87 = matrix (pDn m c) := by
  simp only [V, V0, List.flatten_cons, List.flatten_nil, List.cons_append, List.nil_append, List.append_nil, TRef.ternary,
    TRef.unary, TRef.toBuf, TRef.ofBuf, cast_eq]
  after_results_simp
  rfl

end Cert.HostPrefix

end
-- ==== Proof.RefSide.lean ====
/- One side of the reference, as the program writes it: sort the prices, gather the capacities in that order, take the
   running sum, cut, and gather back through the inverse order. Both sides of the reference are this one function. -/
module

public import proofs.«01_k».proof.Proof.Gen.ReferenceIdeal.Read
public import proofs.«01_k».proof.Proof.Merit
public import proofs.«01_k».proof.Proof.Bits

@[expose] public section

noncomputable section

namespace Cert.RefSide

open Cert.ReferenceIdeal Cert.ReferenceIdeal.Gen Idealize.ShloMosaic Idealize.ShloMosaic.ValueIdx Cert.Merit Cert.Bits

/-! ## The operations in order -/

/-- The prices' sorting order, as a table of positions. -/
def orderOf (P : FVec Ideal S101 .f32) : IVec S101 32 :=
  (Host.sort2 S101 0 comparator_f32_i32_d0 P (iotaInDim S101 32 0)).2

/-- The order that sorts a table of positions. -/
def inverseOf (o : IVec S101 32) : IVec S101 32 :=
  (Host.sort2 S101 0 comparator_i32_i32_d0 o (iotaInDim S101 32 0)).2

/-- A table of positions as the start indices of a gather (a negative position counts from the end). -/
def startsOf (o : IVec S101 32) : IVec S101x1 32 :=
  broadcastInDim S101x1 ![0] bcast_S101_S101x1_0
    (select (cmpi .slt o (broadcastInDim S101 ![] bcast_S_S101 (constantI S_ 32 0#32)))
      (addi o (broadcastInDim S101 ![] bcast_S_S101 (constantI S_ 32 101#32))) o)

/-- The capacities at the positions of a table. -/
def pick (C : FVec Ideal S4096x101x24 .f32) (o : IVec S101 32) : FVec Ideal S4096x101x24 .f32 :=
  Host.gather gather_S4096x101x24_S101x1_S4096x101x24_02_1_n_n_1_1_4096124 C (startsOf o)

/-- The running sum along the capacities. -/
def running (C : FVec Ideal S4096x101x24 .f32) : FVec Ideal S4096x101x24 .f32 :=
  Host.reduceWindowAdd ![1, 101, 1] ![1, 1, 1] ![0, 100, 0] ![0, 0, 0] C
    (broadcastInDim S_ ![] bcast_S_S_ (constant (F := Ideal) S_ .f32 0x00000000#32))
    reduceWindows_S4096x101x24_S4096x101x24_w1s1p0_0_w101s1p100_0_w1s1p0_0 h_S_

/-- The demand, repeated over the capacities, less what comes before, cut to between nothing and the capacity. -/
def cut (C D : FVec Ideal S4096x101x24 .f32) : FVec Ideal S4096x101x24 .f32 :=
  minimumf C (maximumf (broadcastInDim S4096x101x24 ![] bcast_S_S4096x101x24 (id (constant (F := Ideal) S_ .f32 0x00000000#32)))
    (subf D (subf (running C) C)))

/-- One side of the reference: prices `P`, capacities `C` and the repeated demand `D`. -/
def side (P : FVec Ideal S101 .f32) (C D : FVec Ideal S4096x101x24 .f32) : FVec Ideal S4096x101x24 .f32 :=
  pick (cut (pick C (orderOf P)) D) (inverseOf (orderOf P))

/-! ## Each operation read at an index -/

/-- The reference's price comparator is "less than" on the extended reals. -/
theorem comparator_price (x y : EReal) (a b : BitVec 32) :
    (comparator_f32_i32_d0 (F := Ideal) (x, a) (y, b) == 1#1) = decide (x < y) := by
  have h : ∀ z : EReal, Scalar.select (Ideal.cmp .une z z) (Ideal.ofBits .f32 0x7FC00000#32)
      (Scalar.select (Ideal.cmp .oeq z (Ideal.ofBits .f32 0x00000000#32)) (Ideal.ofBits .f32 0x00000000#32) z) = z := by
    intro z
    have h1 : Ideal.cmp .une z z = 0#1 := by simp [Ideal.cmp]
    rw [h1, select_zero, zero_bits]
    by_cases hz : z = 0
    · subst hz; unfold Scalar.select; split <;> rfl
    · have h2 : Ideal.cmp .oeq z 0 = 0#1 := by simp [Ideal.cmp, hz]
      rw [h2, select_zero]
  show (Ideal.cmp .olt _ _ == 1#1) = _
  erw [h x, h y]
  exact ofBool_eq_one _

/-- The positions sort by their value. -/
theorem comparator_position {i j : ℕ} (hi : i < 101) (hj : j < 101) (a b : BitVec 32) :
    (comparator_i32_i32_d0 (BitVec.ofNat 32 i, a) (BitVec.ofNat 32 j, b) == 1#1) = decide (i < j) := by
  show (BitVec.ofBool ((BitVec.ofNat 32 i).slt (BitVec.ofNat 32 j)) == 1#1) = _
  rw [ofBool_eq_one, BitVec.slt, toInt_small hi, toInt_small hj]
  simp

/-- The prices' order as a rearrangement of the positions. -/
def perm (P : FVec Ideal S101 .f32) : Fin 101 → Fin 101 :=
  sortedFrom fun k k' => comparator_f32_i32_d0 (F := Ideal) (P (ix1 k), BitVec.ofNat 32 k.val) (P (ix1 k'), BitVec.ofNat 32 k'.val) == 1#1

/-- The inverse order as a rearrangement of the positions. -/
def inv (P : FVec Ideal S101 .f32) : Fin 101 → Fin 101 :=
  sortedFrom fun k k' => comparator_i32_i32_d0 (BitVec.ofNat 32 (perm P k).val, BitVec.ofNat 32 k.val)
    (BitVec.ofNat 32 (perm P k').val, BitVec.ofNat 32 k'.val) == 1#1

theorem along_ix1 (r : Fin 101) (h : 0 < S101.rank) (k : Fin (S101.size ⟨0, h⟩)) :
    Shape.Idx.along (s := S101) (ix1 r) ⟨0, h⟩ k = ix1 k := by
  refine (Shape.Idx.along_rank1 (n := 101) (ix1 r) k).trans ?_
  funext a
  match a with
  | ⟨0, _⟩ => rfl

theorem orderOf_apply (P : FVec Ideal S101 .f32) (r : Fin 101) :
    orderOf P (ix1 r) = BitVec.ofNat 32 (perm P r).val := by
  unfold orderOf Host.sort2
  rw [dif_pos (show 0 < S101.rank by decide)]
  simp only [along_ix1]
  refine congrArg (fun i : Fin 101 => BitVec.ofNat 32 i.val) (?_ : sortedFrom _ _ = perm P r)
  unfold perm
  exact congrFun (congrArg sortedFrom (funext fun k => funext fun k' => rfl)) r

theorem inverseOf_apply (P : FVec Ideal S101 .f32) (g : Fin 101) :
    inverseOf (orderOf P) (ix1 g) = BitVec.ofNat 32 (inv P g).val := by
  unfold inverseOf Host.sort2
  rw [dif_pos (show 0 < S101.rank by decide)]
  simp only [along_ix1]
  refine congrArg (fun i : Fin 101 => BitVec.ofNat 32 i.val) (?_ : sortedFrom _ _ = inv P g)
  unfold inv
  refine congrFun (congrArg sortedFrom (funext fun k => funext fun k' => ?_)) g
  rw [← orderOf_apply P k, ← orderOf_apply P k']
  rfl

/-- Following the inverse order and then the order returns to where one was. -/
theorem perm_inv (P : FVec Ideal S101 .f32) (g : Fin 101) : perm P (inv P g) = g :=
  sortedFrom_inverse ⟨sortedFrom_injective _, sortedFrom_surjective _⟩
    (fun a b => by rw [comparator_position (perm P a).isLt (perm P b).isLt, decide_eq_true_eq, Fin.lt_def]; rfl) g

theorem startsOf_apply (o : IVec S101 32) (k : Fin 101) (v : ℕ) (hv : v < 101) (ho : o (ix1 k) = BitVec.ofNat 32 v) :
    startsOf o (ix2 k (0 : Fin 1)) = BitVec.ofNat 32 v := by
  unfold startsOf
  rw [broadcastInDim_apply _ _ _ _ (ix1 k) (fun a => match a with | ⟨0, _⟩ => rfl), select_apply, ho]
  have h : cmpi .slt o (broadcastInDim S101 ![] bcast_S_S101 (constantI S_ 32 0#32)) (ix1 k) = 0#1 := by
    show BitVec.ofBool ((o (ix1 k)).slt 0#32) = 0#1
    rw [ho]
    have : (BitVec.ofNat 32 v).slt 0#32 = false := by
      rw [BitVec.slt, toInt_small hv]
      simp
    rw [this]; rfl
  rw [h, select_zero]

/-- A gather's operand coordinate on an axis that has no start index is the result's offset coordinate. -/
theorem offset_axis (d : GatherDims S4096x101x24 S101x1 S4096x101x24) (s : IVec S101x1 32) (j : S4096x101x24.Idx)
    (a : Fin 3) (hm : a ∉ d.startIndexMap) (hb : a ∉ d.operandBatchingDims) (hk : a ∈ d.sKept) {v : ℕ}
    (hv : (j (d.offsetDims[d.sKept.idxOf a]'(by rw [d.offset_length]; exact List.idxOf_lt_length_iff.2 hk))).val = v) :
    (d.operandIdx j s a).val = v := by
  show d.start j s a + d.batchCoord j a + d.offCoord j a = v
  rw [GatherDims.batchCoord_eq_zero _ _ _ hb]
  unfold GatherDims.start GatherDims.offCoord
  rw [dif_neg hm, dif_pos hk, hv, Nat.add_zero, Nat.zero_add]

theorem pick_apply (C : FVec Ideal S4096x101x24 .f32) (o : IVec S101 32) (b : Fin 4096) (k : Fin 101) (t : Fin 24)
    (v : Fin 101) (ho : o (ix1 k) = BitVec.ofNat 32 v.val) : pick C o (ix3 b k t) = C (ix3 b v t) := by
  unfold pick Host.gather
  congr 1
  have hs := startsOf_apply o k v.val v.isLt ho
  generalize startsOf o = s at hs
  funext a
  refine Fin.ext ?_
  match a with
  | ⟨0, _⟩ => exact offset_axis _ s _ (0 : Fin 3) (by decide) (by decide) (by decide) rfl
  | ⟨2, _⟩ => exact offset_axis _ s _ (2 : Fin 3) (by decide) (by decide) (by decide) rfl
  | ⟨1, _⟩ =>
    have hsi : gather_S4096x101x24_S101x1_S4096x101x24_02_1_n_n_1_1_4096124.siIdx (ix3 b k t) ⟨0, by decide⟩ = ix2 k (0 : Fin 1) := by
      funext b'; refine Fin.ext ?_
      match b' with
      | ⟨0, _⟩ => rfl
      | ⟨1, _⟩ => rfl
    show GatherDims.start (s := S4096x101x24) _ _ _ (1 : Fin 3) + GatherDims.batchCoord (s := S4096x101x24) _ _ (1 : Fin 3)
      + GatherDims.offCoord (s := S4096x101x24) _ _ (1 : Fin 3) = v.val
    rw [GatherDims.batchCoord_eq_zero _ _ _ (by decide), GatherDims.offCoord_eq_zero _ _ _ (by decide)]
    unfold GatherDims.start
    rw [dif_pos (by decide)]
    show min (s (gather_S4096x101x24_S101x1_S4096x101x24_02_1_n_n_1_1_4096124.siIdx (ix3 b k t) ⟨0, by decide⟩)).toInt.toNat (101 - 1) + 0 + 0 = v.val
    rw [hsi, hs, toInt_small v.isLt]
    have := v.isLt
    simp; omega

/-- The places of the summing window, one for each capacity. -/
def windowEquiv : (⟨3, ![1, 101, 1]⟩ : Shape).Idx ≃ Fin 101 where
  toFun i := i 1
  invFun k := ix3 (0 : Fin 1) k (0 : Fin 1)
  left_inv i := by
    funext a
    match a with
    | ⟨0, _⟩ => exact Subsingleton.elim (α := Fin 1) _ _
    | ⟨1, _⟩ => rfl
    | ⟨2, _⟩ => exact Subsingleton.elim (α := Fin 1) _ _
  right_inv k := rfl

theorem running_apply (C : FVec Ideal S4096x101x24 .f32) (b : Fin 4096) (r : Fin 101) (t : Fin 24) :
    running C (ix3 b r t) = ∑ r' : Fin 101, if r' ≤ r then C (ix3 b r' t) else 0 := by
  unfold running Host.reduceWindowAdd
  rw [Ideal.hostReduceWindowAdd_def]
  unfold Ideal.hostReduceWindowAdd Host.reduceWindow
  dsimp only
  have h0 : (broadcastInDim S_ ![] bcast_S_S_ (constant (F := Ideal) S_ .f32 0x00000000#32)) (Shape.Idx.first h_S_) = (0 : EReal) :=
    zero_bits
  rw [h0, foldl_add, ← Equiv.sum_comp (windowEquiv.symm.trans (⟨3, ![1, 101, 1]⟩ : Shape).rowMajor)]
  simp only [Equiv.trans_apply, Equiv.symm_apply_apply]
  refine window_sum (m := 100) (fun r' => C (ix3 b r' t)) r _ ?_ ?_
  · intro k r' h
    have hin : ∀ a : Fin 3, (![0, 100, 0] : Fin 3 → ℕ) a ≤ ((ix3 b r t : S4096x101x24.Idx) a).val * (![1, 1, 1] : Fin 3 → ℕ) a + ((windowEquiv.symm k) a).val
        ∧ ((ix3 b r t : S4096x101x24.Idx) a).val * (![1, 1, 1] : Fin 3 → ℕ) a + ((windowEquiv.symm k) a).val - (![0, 100, 0] : Fin 3 → ℕ) a < S4096x101x24.size a := by
      intro a
      match a with
      | ⟨0, _⟩ => exact ⟨Nat.zero_le _, by show b.val * 1 + 0 - 0 < 4096; have := b.isLt; omega⟩
      | ⟨1, _⟩ =>
        have := r'.isLt
        exact ⟨by show 100 ≤ r.val * 1 + k.val; omega, by show r.val * 1 + k.val - 100 < 101; omega⟩
      | ⟨2, _⟩ => exact ⟨Nat.zero_le _, by show t.val * 1 + 0 - 0 < 24; have := t.isLt; omega⟩
    refine (dif_pos hin).trans ?_
    congr 1
    funext a
    refine Fin.ext ?_
    match a with
    | ⟨0, _⟩ => show b.val * 1 + 0 - 0 = b.val; omega
    | ⟨1, _⟩ => show r.val * 1 + k.val - 100 = r'.val; omega
    | ⟨2, _⟩ => show t.val * 1 + 0 - 0 = t.val; omega
  · intro k h
    refine dif_neg fun hin => ?_
    have h1 : 100 ≤ r.val * 1 + k.val := (hin 1).1
    omega

/-- ONE SIDE OF THE REFERENCE serves the capacities in merit order. -/
theorem side_apply (P : FVec Ideal S101 .f32) (C D : FVec Ideal S4096x101x24 .f32) (b : Fin 4096) (g : Fin 101) (t : Fin 24)
    (dem : EReal) (hD : ∀ k, D (ix3 b k t) = dem) (hC : ∀ k, Finite (C (ix3 b k t))) :
    side P C D (ix3 b g t) = served (fun k => P (ix1 k)) dem (fun k => C (ix3 b k t)) g := by
  have hp : ∀ k, pick C (orderOf P) (ix3 b k t) = C (ix3 b (perm P k) t) :=
    fun k => pick_apply C _ b k t (perm P k) (orderOf_apply P k)
  unfold side
  rw [pick_apply _ _ b g t (inv P g) (inverseOf_apply P g)]
  unfold cut
  rw [minimumf_apply, maximumf_apply, subf_apply, subf_apply, running_apply, hD]
  simp only [hp]
  refine Eq.trans ?_ (sorted_served (p := fun k => P (ix1 k)) (B := fun k k' => comparator_f32_i32_d0 (F := Ideal)
    (P (ix1 k), BitVec.ofNat 32 k.val) (P (ix1 k'), BitVec.ofNat 32 k'.val) == 1#1)
    (fun a b => by rw [comparator_price, decide_eq_true_eq]) (cap := fun k => C (ix3 b k t)) hC dem g (inv P g) (perm_inv P g))
  congr 2
  exact zero_bits

end Cert.RefSide

end
-- ==== Proof.RefValue.lean ====
/- The reference's five results in plain mathematics: each is the merit-order dispatch, or its cost, of the specification. -/
module

public import proofs.«01_k».proof.Proof.RefSide
public import proofs.«01_k».proof.Proof.Spec

@[expose] public section

noncomputable section

namespace Cert.RefValue

open Cert.ReferenceIdeal Cert.ReferenceIdeal.Gen Cert.ReferenceIdeal.Read Idealize.ShloMosaic Idealize.ShloMosaic.ValueIdx
open Cert.Merit Cert.Spec Cert.RefSide Cert.Bits

/-! ## The pieces the sides are built from -/

/-- A hundred unit prices followed by the slack's. -/
theorem join_prices (c : FVec Ideal S100 .f32) (s : FVec Ideal S1 .f32) (ratio slack : EReal) (base : Fin 100 → EReal)
    (hc : ∀ g, c (ix1 g) = ratio * base g) (hs : ∀ i, s i = slack) (k : Fin 101) :
    concatenate S101 0 [⟨S100, c⟩, ⟨S1, s⟩] concatenates_S100_S1_S101_d0 (ix1 k) = prices ratio slack base k := by
  unfold prices
  split
  · rename_i h
    rw [concatenate_pair_apply_left (0 : Fin 1) c s concatenates_S100_S1_S101_d0 (ix1 k) rfl
      (ix1 (⟨k.val, h⟩ : Fin 100)) (fun b => match b with | ⟨0, _⟩ => rfl)]
    exact hc _
  · rename_i h
    rw [concatenate_pair_apply_right (0 : Fin 1) c s concatenates_S100_S1_S101_d0 (ix1 k) rfl rfl
      (ix1 (⟨0, by decide⟩ : Fin 1)) (fun b hb => match b, hb with | ⟨0, _⟩, hb => absurd rfl hb)
      (by show 0 + 100 = k.val; omega)]
    exact hs _

/-- A hundred reserves followed by the demand, in every row and hour. -/
theorem join_caps (R : FVec Ideal S4096x100x24 .f32) (d : FVec Ideal S4096x1x24 .f32) (b : Fin 4096) (t : Fin 24) (dem : EReal)
    (hd : d (ix3 b (⟨0, by decide⟩ : Fin 1) t) = dem) (k : Fin 101) :
    concatenate S4096x101x24 1 [⟨S4096x100x24, R⟩, ⟨S4096x1x24, d⟩] concatenates_S4096x100x24_S4096x1x24_S4096x101x24_d1 (ix3 b k t)
      = caps (fun g => R (ix3 b g t)) dem k := by
  unfold caps
  split
  · rename_i h
    exact concatenate_pair_apply_left (1 : Fin 3) R d concatenates_S4096x100x24_S4096x1x24_S4096x101x24_d1 (ix3 b k t) rfl
      (ix3 b (⟨k.val, h⟩ : Fin 100) t) (fun a => match a with | ⟨0, _⟩ => rfl | ⟨1, _⟩ => rfl | ⟨2, _⟩ => rfl)
  · rename_i h
    rw [concatenate_pair_apply_right (1 : Fin 3) R d concatenates_S4096x100x24_S4096x1x24_S4096x101x24_d1 (ix3 b k t) rfl rfl
      (ix3 b (⟨0, by decide⟩ : Fin 1) t)
      (fun a ha => match a, ha with | ⟨0, _⟩, _ => rfl | ⟨1, _⟩, ha => absurd rfl ha | ⟨2, _⟩, _ => rfl)
      (by show 0 + 100 = k.val; omega)]
    exact hd

/-- The demand upwards is the positive part. -/
theorem demand_up (x2 : FVec Ideal S4096x24 .f32) (b : Fin 4096) (t : Fin 24) :
    val_main_v5 (F := Ideal) x2 (ix2 b t) = max (x2 (ix2 b t)) 0 := by
  rw [val_main_v5_apply, val_main_v4_apply]
  show max (x2 (ix2 b t)) (Ideal.ofBits .f32 0x00000000#32) = _
  rw [zero_bits]

/-- The demand downwards is the negative part. -/
theorem demand_dn (x2 : FVec Ideal S4096x24 .f32) (b : Fin 4096) (t : Fin 24) :
    val_main_v8 (F := Ideal) x2 (ix2 b t) = max (-(x2 (ix2 b t))) 0 := by
  rw [val_main_v8_apply, val_main_v7_apply]
  show max (-(x2 (ix2 b t))) (Ideal.ofBits .f32 0x00000000#32) = _
  rw [zero_bits]

/-! ## The two sides -/

/-- What the reference takes upwards. -/
theorem up_apply (x0 : FVec Ideal S4096x100x24 .f32) (x2 : FVec Ideal S4096x24 .f32) (x3 : FVec Ideal S100 .f32)
    (x4 x6 : FVec Ideal S_ .f32) (h0 : ∀ i, Finite (x0 i)) (h2 : ∀ i, Finite (x2 i)) (b : Fin 4096) (g : Fin 101) (t : Fin 24) :
    val_main_v34 (F := Ideal) x0 x2 x3 x4 x6 (ix3 b g t) =
      take (prices (x6 ix0) (x4 ix0) fun k => x3 (ix1 k)) (fun k => x0 (ix3 b k t)) (max (x2 (ix2 b t)) 0) g := by
  have hP : (fun k => val_main_v10 (F := Ideal) x3 x4 x6 (ix1 k)) = prices (x6 ix0) (x4 ix0) fun k => x3 (ix1 k) := funext fun k =>
    join_prices _ _ _ _ _ (fun k => by rw [val_main_v1_apply, val_main_v0_apply]; rw [eq_ix0 (idx_main_v0 _)]; rfl)
      (fun i => by rw [val_main_v9_apply]) k
  have hC : ∀ k, val_main_v12 (F := Ideal) x0 x2 (ix3 b k t) = caps (fun k => x0 (ix3 b k t)) (max (x2 (ix2 b t)) 0) k := fun k =>
    join_caps _ _ b t _ (by
      rw [val_main_v11_apply, show idx_main_v11 (ix3 b (⟨0, by decide⟩ : Fin 1) t) = ix2 b t from eq_ix2 _, demand_up]) k
  have hD : ∀ k, val_main_v24 (F := Ideal) x2 (ix3 b k t) = max (x2 (ix2 b t)) 0 := fun k => by
    rw [val_main_v24_apply, val_main_v23_apply, show idx_main_v23 (idx_main_v24 (ix3 b k t)) = ix2 b t from eq_ix2 _, demand_up]
  have e : val_main_v34 (F := Ideal) x0 x2 x3 x4 x6 = side (val_main_v10 (F := Ideal) x3 x4 x6) (val_main_v12 (F := Ideal) x0 x2) (val_main_v24 (F := Ideal) x2) := rfl
  rw [e, side_apply _ _ _ b g t _ hD (fun k => by
    rw [hC]; exact caps_finite (fun k => h0 _) ((h2 _).max Finite.zero) k), hP, funext hC]
  rfl

/-- What the reference takes downwards. -/
theorem dn_apply (x1 : FVec Ideal S4096x100x24 .f32) (x2 : FVec Ideal S4096x24 .f32) (x3 : FVec Ideal S100 .f32)
    (x5 x7 : FVec Ideal S_ .f32) (h1 : ∀ i, Finite (x1 i)) (h2 : ∀ i, Finite (x2 i)) (b : Fin 4096) (g : Fin 101) (t : Fin 24) :
    val_main_v63 (F := Ideal) x1 x2 x3 x5 x7 (ix3 b g t) =
      take (prices (x7 ix0) (x5 ix0) fun k => x3 (ix1 k)) (fun k => x1 (ix3 b k t)) (max (-(x2 (ix2 b t))) 0) g := by
  have hP : (fun k => val_main_v39 (F := Ideal) x3 x5 x7 (ix1 k)) = prices (x7 ix0) (x5 ix0) fun k => x3 (ix1 k) := funext fun k =>
    join_prices _ _ _ _ _ (fun k => by rw [val_main_v3_apply, val_main_v2_apply]; rw [eq_ix0 (idx_main_v2 _)]; rfl)
      (fun i => by rw [val_main_v38_apply]) k
  have hC : ∀ k, val_main_v41 (F := Ideal) x1 x2 (ix3 b k t) = caps (fun k => x1 (ix3 b k t)) (max (-(x2 (ix2 b t))) 0) k := fun k =>
    join_caps _ _ b t _ (by
      rw [val_main_v40_apply, show idx_main_v40 (ix3 b (⟨0, by decide⟩ : Fin 1) t) = ix2 b t from eq_ix2 _, demand_dn]) k
  have hD : ∀ k, val_main_v53 (F := Ideal) x2 (ix3 b k t) = max (-(x2 (ix2 b t))) 0 := fun k => by
    rw [val_main_v53_apply, val_main_v52_apply, show idx_main_v52 (idx_main_v53 (ix3 b k t)) = ix2 b t from eq_ix2 _, demand_dn]
  have e : val_main_v63 (F := Ideal) x1 x2 x3 x5 x7 = side (val_main_v39 (F := Ideal) x3 x5 x7) (val_main_v41 (F := Ideal) x1 x2) (val_main_v53 (F := Ideal) x2) := rfl
  rw [e, side_apply _ _ _ b g t _ hD (fun k => by
    rw [hC]; exact caps_finite (fun k => h1 _) ((h2 _).neg.max Finite.zero) k), hP, funext hC]
  rfl

/-! ## The five results -/

section Results

variable (x0 x1 : FVec Ideal S4096x100x24 .f32) (x2 : FVec Ideal S4096x24 .f32) (x3 : FVec Ideal S100 .f32)
  (x4 x5 x6 x7 : FVec Ideal S_ .f32)
  (h0 : ∀ i, Finite (x0 i)) (h1 : ∀ i, Finite (x1 i)) (h2 : ∀ i, Finite (x2 i)) (h3 : ∀ i, Finite (x3 i))
  (h6 : Finite (x6 ix0)) (h7 : Finite (x7 ix0))

/-- The prices upwards. -/
abbrev priceUp : Fin 101 → EReal := prices (x6 ix0) (x4 ix0) fun k => x3 (ix1 k)

/-- The prices downwards. -/
abbrev priceDn : Fin 101 → EReal := prices (x7 ix0) (x5 ix0) fun k => x3 (ix1 k)

/-- What is taken upwards in row `b`, hour `t`, from capacity `g`. -/
abbrev takeUp (b : Fin 4096) (t : Fin 24) : Fin 101 → EReal :=
  take (priceUp x3 x4 x6) (fun k => x0 (ix3 b k t)) (max (x2 (ix2 b t)) 0)

/-- What is taken downwards in row `b`, hour `t`, from capacity `g`. -/
abbrev takeDn (b : Fin 4096) (t : Fin 24) : Fin 101 → EReal :=
  take (priceDn x3 x5 x7) (fun k => x1 (ix3 b k t)) (max (-(x2 (ix2 b t))) 0)

/-- What row `b` costs, both directions together. -/
abbrev total (b : Fin 4096) : EReal :=
  cost (priceUp x3 x4 x6) (fun t k => x0 (ix3 b k t)) (fun t => max (x2 (ix2 b t)) 0)
    + cost (priceDn x3 x5 x7) (fun t k => x1 (ix3 b k t)) (fun t => max (-(x2 (ix2 b t))) 0)

include h0 h2 in
theorem du_apply (b : Fin 4096) (g : Fin 100) (t : Fin 24) :
    val_main_v35 (F := Ideal) x0 x2 x3 x4 x6 (ix3 b g t) = takeUp x0 x2 x3 x4 x6 b t (unit g) := by
  rw [val_main_v35_apply, show idx_main_v35 (ix3 b g t) = ix3 b (unit g) t from eq_ix3 _, up_apply _ _ _ _ _ h0 h2]

include h1 h2 in
theorem dd_apply (b : Fin 4096) (g : Fin 100) (t : Fin 24) :
    val_main_v64 (F := Ideal) x1 x2 x3 x5 x7 (ix3 b g t) = takeDn x1 x2 x3 x5 x7 b t (unit g) := by
  rw [val_main_v64_apply, show idx_main_v64 (ix3 b g t) = ix3 b (unit g) t from eq_ix3 _, dn_apply _ _ _ _ _ h1 h2]

/-- Dropping the unit axis keeps row and hour. -/
theorem row_hour (b : Fin 4096) (t : Fin 24) : idx_main_v36 (idx_main_v37 (ix2 b t)) = ix3 b slackAt t := by
  refine (eq_ix3 _).trans ?_
  have e0 : (idx_main_v36 (idx_main_v37 (ix2 b t))) 0 = b :=
    Fin.ext (by show (b.val * 24 + t.val) / 24 = b.val; omega)
  have e2 : (idx_main_v36 (idx_main_v37 (ix2 b t))) 2 = t :=
    Fin.ext (by show (b.val * 24 + t.val) % 24 = t.val; omega)
  rw [e0, e2]
  rfl

include h0 h2 in
theorem ls_apply (b : Fin 4096) (t : Fin 24) :
    val_main_v37 (F := Ideal) x0 x2 x3 x4 x6 (ix2 b t) = takeUp x0 x2 x3 x4 x6 b t slackAt := by
  rw [val_main_v37_apply, val_main_v36_apply, row_hour, up_apply _ _ _ _ _ h0 h2]

include h1 h2 in
theorem sp_apply (b : Fin 4096) (t : Fin 24) :
    val_main_v66 (F := Ideal) x1 x2 x3 x5 x7 (ix2 b t) = takeDn x1 x2 x3 x5 x7 b t slackAt := by
  rw [val_main_v66_apply, val_main_v65_apply, show idx_main_v65 (idx_main_v66 (ix2 b t)) = ix3 b slackAt t from row_hour b t,
    dn_apply _ _ _ _ _ h1 h2]

include h0 h1 h2 h3 h6 h7 in
theorem obj_apply (b : Fin 4096) :
    val_main_v79 (F := Ideal) x0 x1 x2 x3 x4 x5 x6 x7 (ix1 b) = total x0 x1 x2 x3 x4 x5 x6 x7 b := by
  unfold total
  rw [cost_eq h6 (fun k => h3 _) (fun t k => h0 _) (fun t => (h2 _).max Finite.zero) (fun t => le_max_right _ _),
    cost_eq h7 (fun k => h3 _) (fun t k => h1 _) (fun t => (h2 _).neg.max Finite.zero) (fun t => le_max_right _ _), total_eq]
  rw [val_main_v79_apply, val_main_v75_apply, val_main_v71_apply, val_main_v74_apply, val_main_v78_apply]
  refine congrArg₂ (· + ·) (congrArg₂ (· + ·) (congrArg₂ (· + ·) ?_ ?_) ?_) ?_
  · rw [val_main_v68_apply]
    refine Finset.sum_congr rfl fun g _ => ?_
    rw [show lidx_main_v68 (ix1 b) g = ix1 g from eq_ix1 _, show ridx_main_v68 (ix1 b) g = ix2 b g from eq_ix2 _,
      val_main_v1_apply, val_main_v0_apply, eq_ix0 (idx_main_v0 _), val_main_v67_apply, val_main_cst_10_apply]
    refine congrArg₂ (· * ·) rfl ?_
    show Ideal.ofBits .f32 0x00000000#32 + _ = _
    rw [zero_bits, zero_add]
    refine Finset.sum_congr rfl fun t _ => ?_
    rw [show idx_main_v67 (ix2 b g) t = ix3 b g t from eq_ix3 _, du_apply _ _ _ _ _ h0 h2]
  · rw [val_main_v70_apply]
    refine Finset.sum_congr rfl fun g _ => ?_
    rw [show lidx_main_v70 (ix1 b) g = ix1 g from eq_ix1 _, show ridx_main_v70 (ix1 b) g = ix2 b g from eq_ix2 _,
      val_main_v3_apply, val_main_v2_apply, eq_ix0 (idx_main_v2 _), val_main_v69_apply, val_main_cst_11_apply]
    refine congrArg₂ (· * ·) rfl ?_
    show Ideal.ofBits .f32 0x00000000#32 + _ = _
    rw [zero_bits, zero_add]
    refine Finset.sum_congr rfl fun t _ => ?_
    rw [show idx_main_v69 (ix2 b g) t = ix3 b g t from eq_ix3 _, dd_apply _ _ _ _ _ h1 h2]
  · rw [val_main_v73_apply, eq_ix0 (idx_main_v73 _), val_main_v72_apply, val_main_cst_12_apply]
    refine congrArg₂ (· * ·) rfl ?_
    show Ideal.ofBits .f32 0x00000000#32 + _ = _
    rw [zero_bits, zero_add]
    refine Finset.sum_congr rfl fun t _ => ?_
    rw [show idx_main_v72 (ix1 b) t = ix2 b t from eq_ix2 _, ls_apply _ _ _ _ _ h0 h2]
  · rw [val_main_v77_apply, eq_ix0 (idx_main_v77 _), val_main_v76_apply, val_main_cst_13_apply]
    refine congrArg₂ (· * ·) rfl ?_
    show Ideal.ofBits .f32 0x00000000#32 + _ = _
    rw [zero_bits, zero_add]
    refine Finset.sum_congr rfl fun t _ => ?_
    rw [show idx_main_v76 (ix1 b) t = ix2 b t from eq_ix2 _, sp_apply _ _ _ _ _ h1 h2]

end Results

end Cert.RefValue
-- ==== Proof.Arrays.lean ====
/- The five arrays after the grid: point `t` works on the rows `256 t + r`, reads the whole matrices, and its blocks
   tile the results, so each array holds row by row what one block computes. -/
module

public import proofs.«01_k».proof.Proof.HostPrefix
public import proofs.«01_k».proof.Proof.RefValue
public import Idealize.ShloMosaic.Lib.Pipeline.ValueKit

@[expose] public section

noncomputable section

namespace Cert.Arrays

open Idealize.ShloMosaic hiding ix0 ix1 ix2 ix3
open Cert.KernelIdeal Cert.KernelIdeal.Gen Idealize.ShloMosaic.ValueIdx
open Idealize.ShloMosaic.StableHlo Idealize.ShloMosaic.TcCoe
open Cert.Merit Cert.Spec Cert.MeritMatrix Cert.Block Cert.HostPrefix Cert.RefValue

/-! ## Rows and points -/

/-- The row of the arrays that is row `r` at point `t`. -/
abbrev rowAt (t : Fin cfg0.N) (r : Fin 256) : Fin 4096 :=
  ⟨t.val * 256 + r.val, by have ht : t.val < 16 := t.isLt; omega⟩

/-! The matrices and the price rows are read whole at every point. -/

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel

/-! The imbalance, the reserves and the results are taken 256 rows a point. -/

theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel

variable (m : (ℓ : Loc nD τ sig) → Buf (Elt Ideal) ℓ) (c : Dev nD)

/-! ## What point `t` reads -/

/-- The imbalance of the point's rows. -/
theorem omega_block (t : Fin cfg0.N) (r : Fin 256) (s : Fin 24) :
    iblk m c 4 t (ix2 r s) = m ((c.tc : Thread nD τ).loc main_arg2) (ix2 (rowAt t r) s) := by
  blk_simp [iblk]
  rw [V_main_arg2]
  refine congrArg _ (funext fun a => Fin.ext ?_)
  match a with
  | ⟨0, _⟩ => blk_simp; rw [(idx4 t).1]
  | ⟨1, _⟩ => blk_simp; rw [(idx4 t).2]; show 0 * 24 + s.val = s.val; omega

/-- The reserves upwards of the point's rows. -/
theorem reserves_up_block (t : Fin cfg0.N) (r : Fin 256) (g : Fin 100) (s : Fin 24) :
    iblk m c 5 t (ix2 r (flatUnit g s)) = m ((c.tc : Thread nD τ).loc main_arg0) (ix3 (rowAt t r) g s) := by
  refine Eq.trans ?_ (flat_reserves_apply (m ((c.tc : Thread nD τ).loc main_arg0)) (rowAt t r) g s)
  blk_simp [iblk]
  rw [V_reserves_up]
  refine congrArg _ (funext fun a => Fin.ext ?_)
  match a with
  | ⟨0, _⟩ => blk_simp; rw [(idx5 t).1]
  | ⟨1, _⟩ => blk_simp; rw [(idx5 t).2]; show 0 * 2400 + (flatUnit g s).val = (flatUnit g s).val; omega

/-- The reserves downwards of the point's rows. -/
theorem reserves_dn_block (t : Fin cfg0.N) (r : Fin 256) (g : Fin 100) (s : Fin 24) :
    iblk m c 6 t (ix2 r (flatUnit g s)) = m ((c.tc : Thread nD τ).loc main_arg1) (ix3 (rowAt t r) g s) := by
  refine Eq.trans ?_ (flat_reserves_apply (m ((c.tc : Thread nD τ).loc main_arg1)) (rowAt t r) g s)
  blk_simp [iblk]
  rw [V_reserves_dn]
  refine congrArg _ (funext fun a => Fin.ext ?_)
  match a with
  | ⟨0, _⟩ => blk_simp; rw [(idx6 t).1]
  | ⟨1, _⟩ => blk_simp; rw [(idx6 t).2]; show 0 * 2400 + (flatUnit g s).val = (flatUnit g s).val; omega

/-- The whole matrix upwards. -/
theorem matrix_up_block (t : Fin cfg0.N) : iblk m c 0 t = matrix (pUp m c) := by
  funext y
  blk_simp [iblk]
  rw [V_matrix_up]
  refine congrArg _ (funext fun a => Fin.ext ?_)
  match a with
  | ⟨0, _⟩ => blk_simp; rw [(idx0 t).1]; omega
  | ⟨1, _⟩ => blk_simp; rw [(idx0 t).2]; omega

/-- The whole matrix downwards. -/
theorem matrix_dn_block (t : Fin cfg0.N) : iblk m c 1 t = matrix (pDn m c) := by
  funext y
  blk_simp [iblk]
  rw [V_matrix_dn]
  refine congrArg _ (funext fun a => Fin.ext ?_)
  match a with
  | ⟨0, _⟩ => blk_simp; rw [(idx1 t).1]; omega
  | ⟨1, _⟩ => blk_simp; rw [(idx1 t).2]; omega

/-- The whole row of prices upwards. -/
theorem row_up_block (t : Fin cfg0.N) : iblk m c 2 t = priceRow (pUp m c) := by
  funext y
  blk_simp [iblk]
  rw [V_row_up]
  refine congrArg _ (funext fun a => Fin.ext ?_)
  match a with
  | ⟨0, _⟩ => blk_simp; rw [(idx2 t).1]
  | ⟨1, _⟩ => blk_simp; rw [(idx2 t).2]; omega

/-- The whole row of prices downwards. -/
theorem row_dn_block (t : Fin cfg0.N) : iblk m c 3 t = priceRow (pDn m c) := by
  funext y
  blk_simp [iblk]
  rw [V_row_dn]
  refine congrArg _ (funext fun a => Fin.ext ?_)
  match a with
  | ⟨0, _⟩ => blk_simp; rw [(idx3 t).1]
  | ⟨1, _⟩ => blk_simp; rw [(idx3 t).2]; omega

/-! ## The arguments, finite where the claim needs it -/

/-- The arguments the dispatch computes with are finite. -/
structure FiniteArgs : Prop where
  up : ∀ i, Finite (m ((c.tc : Thread nD τ).loc main_arg0) i)
  dn : ∀ i, Finite (m ((c.tc : Thread nD τ).loc main_arg1) i)
  omega : ∀ i, Finite (m ((c.tc : Thread nD τ).loc main_arg2) i)

/-- Upwards, from the arguments. -/
abbrev up (b : Fin 4096) (s : Fin 24) (g : Fin 101) : EReal :=
  takeUp (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg6)) b s g

/-- Downwards, from the arguments. -/
abbrev dn (b : Fin 4096) (s : Fin 24) (g : Fin 101) : EReal :=
  takeDn (m ((c.tc : Thread nD τ).loc main_arg1)) (m ((c.tc : Thread nD τ).loc main_arg2)) (m ((c.tc : Thread nD τ).loc main_arg3))
    (m ((c.tc : Thread nD τ).loc main_arg5)) (m ((c.tc : Thread nD τ).loc main_arg7)) b s g

/-- A row's objective, from the arguments. -/
abbrev objective (b : Fin 4096) : EReal :=
  total (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) b

/-! ## What one point leaves, row by row -/

/-- A column is a unit's hour. -/
theorem exists_flatUnit (n : Fin 2400) : ∃ (g : Fin 100) (s : Fin 24), n = flatUnit g s :=
  ⟨⟨n.val / 24, by omega⟩, ⟨n.val % 24, by omega⟩, Fin.ext (by show n.val = n.val / 24 * 24 + n.val % 24; omega)⟩

section Point

variable (h : FiniteArgs m c) (t : Fin cfg0.N) (r : Fin 256)

include h in
theorem omega_finite (s : Fin 24) : Finite (iblk m c 4 t (ix2 r s)) := by
  rw [omega_block]; exact h.omega _

include h in
theorem up_finite (n : Fin 2400) : Finite (iblk m c 5 t (ix2 r n)) := by
  obtain ⟨g, s, rfl⟩ := exists_flatUnit n
  rw [reserves_up_block]; exact h.up _

include h in
theorem dn_finite (n : Fin 2400) : Finite (iblk m c 6 t (ix2 r n)) := by
  obtain ⟨g, s, rfl⟩ := exists_flatUnit n
  rw [reserves_dn_block]; exact h.dn _

/-- A block's row upwards is the array's row. -/
theorem rowUp_eq (s : Fin 24) : rowUp (pUp m c) (iblk m c 4 t) (iblk m c 5 t) r s = up m c (rowAt t r) s := by
  unfold rowUp up takeUp priceUp
  refine congr (congr (congrArg take ?_) ?_) ?_
  · exact funext fun k => joined_apply _ _ _ k
  · exact funext fun k => reserves_up_block m c t r k s
  · rw [omega_block]

/-- A block's row downwards is the array's row. -/
theorem rowDn_eq (s : Fin 24) : rowDn (pDn m c) (iblk m c 4 t) (iblk m c 6 t) r s = dn m c (rowAt t r) s := by
  unfold rowDn dn takeDn priceDn
  refine congr (congr (congrArg take ?_) ?_) ?_
  · exact funext fun k => joined_apply _ _ _ k
  · exact funext fun k => reserves_dn_block m c t r k s
  · rw [omega_block]

include h in
/-- The point's units upwards. -/
theorem du_point (g : Fin 100) (s : Fin 24) :
    k0_pay7 (F := Ideal) (iblk m c 4 t) (iblk m c 5 t) (iblk m c 0 t) (ix2 r (flatUnit g s)) = up m c (rowAt t r) s (unit g) := by
  rw [matrix_up_block, Block.du_apply (pUp m c) (iblk m c 4 t) (iblk m c 5 t) r (omega_finite m c h t r) (up_finite m c h t r), rowUp_eq]

include h in
/-- The point's units downwards. -/
theorem dd_point (g : Fin 100) (s : Fin 24) :
    k0_pay2 (F := Ideal) (k0_pay9 (F := Ideal) (iblk m c 4 t)) (iblk m c 6 t) (iblk m c 1 t) (ix2 r (flatUnit g s))
      = dn m c (rowAt t r) s (unit g) := by
  rw [matrix_dn_block, Block.dd_apply (pDn m c) (iblk m c 4 t) (iblk m c 6 t) r (omega_finite m c h t r) (dn_finite m c h t r), rowDn_eq]

include h in
/-- The point's slack upwards. -/
theorem ls_point (s : Fin 24) :
    k0_pay8 (F := Ideal) (iblk m c 4 t) (iblk m c 5 t) (iblk m c 0 t) (ix2 r s) = up m c (rowAt t r) s slackAt := by
  rw [matrix_up_block, Block.ls_apply (pUp m c) (iblk m c 4 t) (iblk m c 5 t) r (omega_finite m c h t r) (up_finite m c h t r), rowUp_eq]

include h in
/-- The point's slack downwards. -/
theorem sp_point (s : Fin 24) :
    k0_pay3 (F := Ideal) (k0_pay9 (F := Ideal) (iblk m c 4 t)) (iblk m c 6 t) (iblk m c 1 t) (ix2 r s) = dn m c (rowAt t r) s slackAt := by
  rw [matrix_dn_block, Block.sp_apply (pDn m c) (iblk m c 4 t) (iblk m c 6 t) r (omega_finite m c h t r) (dn_finite m c h t r), rowDn_eq]

include h in
/-- The point's objectives. -/
theorem obj_point (o : Fin 1) :
    k0_pay4 (F := Ideal) (k0_pay6 (F := Ideal) (iblk m c 4 t) (iblk m c 5 t) (iblk m c 0 t) (iblk m c 2 t)) (k0_pay9 (F := Ideal) (iblk m c 4 t))
      (iblk m c 6 t) (iblk m c 1 t) (iblk m c 3 t) (ix2 r o) = objective m c (rowAt t r) := by
  rw [matrix_up_block, matrix_dn_block, row_up_block, row_dn_block,
    Block.obj_apply (pUp m c) (pDn m c) (iblk m c 4 t) (iblk m c 5 t) (iblk m c 6 t) r (omega_finite m c h t r) (up_finite m c h t r) (dn_finite m c h t r)]
  unfold objective total priceUp priceDn
  refine congrArg₂ (· + ·) ?_ ?_
  · refine congr (congr (congrArg cost ?_) ?_) ?_
    · exact funext fun k => joined_apply _ _ _ k
    · exact funext fun s => funext fun k => reserves_up_block m c t r k s
    · exact funext fun s => by rw [omega_block]
  · refine congr (congr (congrArg cost ?_) ?_) ?_
    · exact funext fun k => joined_apply _ _ _ k
    · exact funext fun s => funext fun k => reserves_dn_block m c t r k s
    · exact funext fun s => by rw [omega_block]

end Point

/-! ## What a block holds once the body has stored into it -/

section Stored

variable (x0 x1 : FVec Ideal S2424x2424 .bf16) (x2 x3 : FVec Ideal S1x2424 .f32) (x4 : FVec Ideal S256x24 .f32) (x5 x6 : FVec Ideal S256x2400 .f32)

theorem zeros_two : (![0, 0] : Fin 2 → Nat) = fun _ => 0 := by decide

theorem stored_dd : out0_8 (F := Ideal) x0 x1 x2 x3 x4 x5 x6 = k0_pay2 (F := Ideal) (k0_pay9 (F := Ideal) x4) x6 x1 := by
  unfold out0_8 k0_pay10
  rw [View.canon_unit_zero zeros_two, View.ld_unit_zero zeros_two, View.ld_unit_zero zeros_two, View.ld_unit_zero zeros_two]

theorem stored_sp : out0_10 (F := Ideal) x0 x1 x2 x3 x4 x5 x6 = k0_pay3 (F := Ideal) (k0_pay9 (F := Ideal) x4) x6 x1 := by
  unfold out0_10 k0_pay10
  rw [View.canon_unit_zero zeros_two, View.ld_unit_zero zeros_two, View.ld_unit_zero zeros_two, View.ld_unit_zero zeros_two]

theorem stored_obj : out0_11 (F := Ideal) x0 x1 x2 x3 x4 x5 x6
    = k0_pay4 (F := Ideal) (k0_pay6 (F := Ideal) x4 x5 x0 x2) (k0_pay9 (F := Ideal) x4) x6 x1 x3 := by
  unfold out0_11 k0_pay10
  rw [View.canon_unit_zero zeros_two, View.ld_unit_zero zeros_two, View.ld_unit_zero zeros_two, View.ld_unit_zero zeros_two,
    View.ld_unit_zero zeros_two, View.ld_unit_zero zeros_two, View.ld_unit_zero zeros_two, View.ld_unit_zero zeros_two]

end Stored

/-! ## The arrays after the last point -/

section After

variable (h : FiniteArgs m c)

include h in
/-- The units upwards: row `b` was written by the point it belongs to, and by no other. -/
theorem du_array (b : Fin 4096) (g : Fin 100) (s : Fin 24) : (dats m 0 c).arrAt 7 cfg0.N (ix2 b (flatUnit g s)) = up m c b s (unit g) := by
  refine (dats m 0 c).arrAt_forall_of_covers 7 (fun i v => ∀ b g s, i = ix2 b (flatUnit g s) → v = up m c b s (unit g))
    (by decide +kernel) (fun t _ y => ?_) _ (by exact Memref.isWhole_whole _) b g s rfl
  intro b g s e
  obtain ⟨r, n, rfl⟩ : ∃ (r : Fin 256) (n : Fin 2400), y = ix2 r n := ⟨y 0, y 1, ValueIdx.eq_ix2 y⟩
  have e0 := congrArg Fin.val (congrFun e 0)
  have e1 := congrArg Fin.val (congrFun e 1)
  blk_simp at e0 e1
  rw [(idx7 t).1] at e0
  rw [(idx7 t).2] at e1
  obtain rfl : rowAt t r = b := Fin.ext e0
  obtain rfl : n = flatUnit g s := Fin.ext (Eq.trans (by omega : n.val = 0 * 2400 + n.val) e1)
  blk_simp
  rw [after0_7]
  frame_out
  exact du_point m c h t r g s

include h in
/-- The units downwards. -/
theorem dd_array (b : Fin 4096) (g : Fin 100) (s : Fin 24) : (dats m 0 c).arrAt 8 cfg0.N (ix2 b (flatUnit g s)) = dn m c b s (unit g) := by
  refine (dats m 0 c).arrAt_forall_of_covers 8 (fun i v => ∀ b g s, i = ix2 b (flatUnit g s) → v = dn m c b s (unit g))
    (by decide +kernel) (fun t _ y => ?_) _ (by exact Memref.isWhole_whole _) b g s rfl
  intro b g s e
  obtain ⟨r, n, rfl⟩ : ∃ (r : Fin 256) (n : Fin 2400), y = ix2 r n := ⟨y 0, y 1, ValueIdx.eq_ix2 y⟩
  have e0 := congrArg Fin.val (congrFun e 0)
  have e1 := congrArg Fin.val (congrFun e 1)
  blk_simp at e0 e1
  rw [(idx8 t).1] at e0
  rw [(idx8 t).2] at e1
  obtain rfl : rowAt t r = b := Fin.ext e0
  obtain rfl : n = flatUnit g s := Fin.ext (Eq.trans (by omega : n.val = 0 * 2400 + n.val) e1)
  blk_simp
  rw [after0_8, stored_dd]
  exact dd_point m c h t r g s

include h in
/-- The slack upwards. -/
theorem ls_array (b : Fin 4096) (s : Fin 24) : (dats m 0 c).arrAt 9 cfg0.N (ix2 b s) = up m c b s slackAt := by
  refine (dats m 0 c).arrAt_forall_of_covers 9 (fun i v => ∀ b s, i = ix2 b s → v = up m c b s slackAt)
    (by decide +kernel) (fun t _ y => ?_) _ (by exact Memref.isWhole_whole _) b s rfl
  intro b s e
  obtain ⟨r, n, rfl⟩ : ∃ (r : Fin 256) (n : Fin 24), y = ix2 r n := ⟨y 0, y 1, ValueIdx.eq_ix2 y⟩
  have e0 := congrArg Fin.val (congrFun e 0)
  have e1 := congrArg Fin.val (congrFun e 1)
  blk_simp at e0 e1
  rw [(idx9 t).1] at e0
  rw [(idx9 t).2] at e1
  obtain rfl : rowAt t r = b := Fin.ext e0
  obtain rfl : n = s := Fin.ext (Eq.trans (by omega : n.val = 0 * 24 + n.val) e1)
  blk_simp
  rw [after0_9]
  frame_out
  exact ls_point m c h t r n

include h in
/-- The slack downwards. -/
theorem sp_array (b : Fin 4096) (s : Fin 24) : (dats m 0 c).arrAt 10 cfg0.N (ix2 b s) = dn m c b s slackAt := by
  refine (dats m 0 c).arrAt_forall_of_covers 10 (fun i v => ∀ b s, i = ix2 b s → v = dn m c b s slackAt)
    (by decide +kernel) (fun t _ y => ?_) _ (by exact Memref.isWhole_whole _) b s rfl
  intro b s e
  obtain ⟨r, n, rfl⟩ : ∃ (r : Fin 256) (n : Fin 24), y = ix2 r n := ⟨y 0, y 1, ValueIdx.eq_ix2 y⟩
  have e0 := congrArg Fin.val (congrFun e 0)
  have e1 := congrArg Fin.val (congrFun e 1)
  blk_simp at e0 e1
  rw [(idx10 t).1] at e0
  rw [(idx10 t).2] at e1
  obtain rfl : rowAt t r = b := Fin.ext e0
  obtain rfl : n = s := Fin.ext (Eq.trans (by omega : n.val = 0 * 24 + n.val) e1)
  blk_simp
  rw [after0_10, stored_sp]
  exact sp_point m c h t r n

include h in
/-- The objectives. -/
theorem obj_array (b : Fin 4096) (o : Fin 1) : (dats m 0 c).arrAt 11 cfg0.N (ix2 b o) = objective m c b := by
  refine (dats m 0 c).arrAt_forall_of_covers 11 (fun i v => ∀ b o, i = ix2 b o → v = objective m c b)
    (by decide +kernel) (fun t _ y => ?_) _ (by exact Memref.isWhole_whole _) b o rfl
  intro b o e
  obtain ⟨r, n, rfl⟩ : ∃ (r : Fin 256) (n : Fin 1), y = ix2 r n := ⟨y 0, y 1, ValueIdx.eq_ix2 y⟩
  have e0 := congrArg Fin.val (congrFun e 0)
  blk_simp at e0
  rw [(idx11 t).1] at e0
  obtain rfl : rowAt t r = b := Fin.ext e0
  blk_simp
  rw [after0_11, stored_obj]
  exact obj_point m c h t r n

end After

end Cert.Arrays

end
-- ==== Proof.KernelRun.lean ====
/- The kernel's run: what its five results hold at the end, the host reshapes after the grid included. -/
module

public import proofs.«01_k».proof.Proof.Arrays

@[expose] public section

noncomputable section

namespace Cert.KernelRun

open Idealize.ShloMosaic hiding ix0 ix1 ix2 ix3
open Cert.KernelIdeal Cert.KernelIdeal.Gen Idealize.ShloMosaic.ValueIdx
open Idealize.ShloMosaic.StableHlo Idealize.ShloMosaic.TcCoe Idealize.SL.Sem
open Cert.Merit Cert.Spec Cert.Block Cert.HostPrefix Cert.RefValue Cert.Arrays

variable (m : (ℓ : Loc nD τ sig) → Buf (Elt Ideal) ℓ) (ρ : Dev nD → PrngReg) (c : Dev nD)

/-! ## The reshapes after the grid -/

/-- What the buffers hold once the lines after the grid have run. -/
abbrev final (c : Dev nD) (b : Ref sig .tc) : Buf (Elt Ideal) ((c.tc : Thread nD τ).loc b) :=
  Pipeline.afterTail₀ cfgs (dats m) 0 (V0 m) [hostOps1] c b

theorem arrays_distinct : Function.Injective (Pipeline.arrRef spec0) := by decide

theorem final_du : final m c main_v97 = shapeCast S4096x100x24 ((dats m 0 c).arrAt 7 cfg0.N) shapeCasts_S4096x2400_S4096x100x24 := by
  unfold final Pipeline.afterTail₀
  simp only [hostOps1, List.flatten_cons, List.flatten_nil, List.append_nil]
  after_results_simp
  exact congrArg (fun X : FVec Ideal S4096x2400 .f32 => shapeCast S4096x100x24 X shapeCasts_S4096x2400_S4096x100x24)
    (Pipeline.withArrays_arr spec0 arrays_distinct c (V0 m c) (fun w => (dats m 0 c).arrAt w cfg0.N) 7)

theorem final_dd : final m c main_v98 = shapeCast S4096x100x24 ((dats m 0 c).arrAt 8 cfg0.N) shapeCasts_S4096x2400_S4096x100x24 := by
  unfold final Pipeline.afterTail₀
  simp only [hostOps1, List.flatten_cons, List.flatten_nil, List.append_nil]
  after_results_simp
  exact congrArg (fun X : FVec Ideal S4096x2400 .f32 => shapeCast S4096x100x24 X shapeCasts_S4096x2400_S4096x100x24)
    (Pipeline.withArrays_arr spec0 arrays_distinct c (V0 m c) (fun w => (dats m 0 c).arrAt w cfg0.N) 8)

theorem final_obj : final m c main_v99 = shapeCast S4096 ((dats m 0 c).arrAt 11 cfg0.N) shapeCasts_S4096x1_S4096 := by
  unfold final Pipeline.afterTail₀
  simp only [hostOps1, List.flatten_cons, List.flatten_nil, List.append_nil]
  after_results_simp
  exact congrArg (fun X : FVec Ideal S4096x1 .f32 => shapeCast S4096 X shapeCasts_S4096x1_S4096)
    (Pipeline.withArrays_arr spec0 arrays_distinct c (V0 m c) (fun w => (dats m 0 c).arrAt w cfg0.N) 11)

/-! ## The results, as functions of the arguments -/

/-- The units' dispatch upwards. -/
def duOf : FVec Ideal S4096x100x24 .f32 := fun i => up m c (i 0) (i 2) (unit (i 1))

/-- The units' dispatch downwards. -/
def ddOf : FVec Ideal S4096x100x24 .f32 := fun i => dn m c (i 0) (i 2) (unit (i 1))

/-- The demand upwards that no unit could serve. -/
def lsOf : FVec Ideal S4096x24 .f32 := fun i => up m c (i 0) (i 1) slackAt

/-- The demand downwards that no unit could serve. -/
def spOf : FVec Ideal S4096x24 .f32 := fun i => dn m c (i 0) (i 1) slackAt

/-- Every row's objective. -/
def objOf : FVec Ideal S4096 .f32 := fun i => objective m c (i 0)

/-- Units and hours laid out again as two axes. -/
theorem unflat_apply (X : FVec Ideal S4096x2400 .f32) (b : Fin 4096) (g : Fin 100) (s : Fin 24) :
    shapeCast S4096x100x24 X shapeCasts_S4096x2400_S4096x100x24 (ix3 b g s) = X (ix2 b (flatUnit g s)) :=
  shapeCast_apply X shapeCasts_S4096x2400_S4096x100x24 _ _ (by
    rw [Shape.rowMajor_val_two, Shape.rowMajor_val_three]
    show b.val * 2400 + (g.val * 24 + s.val) = (b.val * 100 + g.val) * 24 + s.val
    omega)

section Results

variable (h : FiniteArgs m c)

include h in
theorem du_result : final m c main_v97 = duOf m c := by
  refine (final_du m c).trans (funext fun i => ?_)
  obtain ⟨b, g, s, rfl⟩ : ∃ (b : Fin 4096) (g : Fin 100) (s : Fin 24), i = ix3 b g s := ⟨i 0, i 1, i 2, ValueIdx.eq_ix3 i⟩
  exact (unflat_apply _ b g s).trans (du_array m c h b g s)

include h in
theorem dd_result : final m c main_v98 = ddOf m c := by
  refine (final_dd m c).trans (funext fun i => ?_)
  obtain ⟨b, g, s, rfl⟩ : ∃ (b : Fin 4096) (g : Fin 100) (s : Fin 24), i = ix3 b g s := ⟨i 0, i 1, i 2, ValueIdx.eq_ix3 i⟩
  exact (unflat_apply _ b g s).trans (dd_array m c h b g s)

include h in
theorem ls_result : (dats m 0 c).arrAt 9 cfg0.N = lsOf m c := by
  refine funext fun i => ?_
  obtain ⟨b, s, rfl⟩ : ∃ (b : Fin 4096) (s : Fin 24), i = ix2 b s := ⟨i 0, i 1, ValueIdx.eq_ix2 i⟩
  exact ls_array m c h b s

include h in
theorem sp_result : (dats m 0 c).arrAt 10 cfg0.N = spOf m c := by
  refine funext fun i => ?_
  obtain ⟨b, s, rfl⟩ : ∃ (b : Fin 4096) (s : Fin 24), i = ix2 b s := ⟨i 0, i 1, ValueIdx.eq_ix2 i⟩
  exact sp_array m c h b s

include h in
theorem obj_result : final m c main_v99 = objOf m c := by
  refine (final_obj m c).trans (funext fun i => ?_)
  obtain ⟨b, rfl⟩ : ∃ b : Fin 4096, i = ix1 b := ⟨i 0, ValueIdx.eq_ix1 i⟩
  refine (shapeCast_apply _ shapeCasts_S4096x1_S4096 (ix1 b) (ix2 b (0 : Fin 1)) ?_).trans (obj_array m c h b 0)
  rw [Shape.rowMajor_val_two, Shape.rowMajor_val_one]
  show b.val * 1 + 0 = b.val
  omega

end Results

/-- The whole run: the five results as functions of the arguments, and the arguments unchanged. -/
theorem run (h : ∀ c, FiniteArgs m c) :
    θ_run defs (onTc (τ := τ) (main (F := Ideal))) ⟨m, fun _ => 0, ρ⟩ fun r => ∀ c : Dev nD,
      r.2.mem ((c.tc : Thread nD τ).loc main_v97) = duOf m c
      ∧ r.2.mem ((c.tc : Thread nD τ).loc main_v98) = ddOf m c
      ∧ r.2.mem ((c.tc : Thread nD τ).loc main_v96_2) = lsOf m c
      ∧ r.2.mem ((c.tc : Thread nD τ).loc main_v96_3) = spOf m c
      ∧ r.2.mem ((c.tc : Thread nD τ).loc main_v99) = objOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ e c => ⟨
      ((e c).2 main_v97 (Pipeline.mem_restRefs_of main_v97 (by decide) (by decide))).trans (du_result m c (h c)),
      ((e c).2 main_v98 (Pipeline.mem_restRefs_of main_v98 (by decide) (by decide))).trans (dd_result m c (h c)),
      ((e c).1 9).trans (ls_result m c (h c)),
      ((e c).1 10).trans (sp_result m c (h c)),
      ((e c).2 main_v99 (Pipeline.mem_restRefs_of main_v99 (by decide) (by decide))).trans (obj_result m c (h c)),
      ((e c).2 main_arg0 (Pipeline.mem_restRefs_of main_arg0 (by decide) (by decide))).trans (W_main_arg0 m (dats m) c),
      ((e c).2 main_arg1 (Pipeline.mem_restRefs_of main_arg1 (by decide) (by decide))).trans (W_main_arg1 m (dats m) c),
      ((e c).1 4).trans (((dats m 0 c).arrAt_in 4 rfl _).trans ((A_eq m c 4).trans (V_main_arg2 m c))),
      ((e c).2 main_arg3 (Pipeline.mem_restRefs_of main_arg3 (by decide) (by decide))).trans (W_main_arg3 m (dats m) c),
      ((e c).2 main_arg4 (Pipeline.mem_restRefs_of main_arg4 (by decide) (by decide))).trans (W_main_arg4 m (dats m) c),
      ((e c).2 main_arg5 (Pipeline.mem_restRefs_of main_arg5 (by decide) (by decide))).trans (W_main_arg5 m (dats m) c),
      ((e c).2 main_arg6 (Pipeline.mem_restRefs_of main_arg6 (by decide) (by decide))).trans (W_main_arg6 m (dats m) c),
      ((e c).2 main_arg7 (Pipeline.mem_restRefs_of main_arg7 (by decide) (by decide))).trans (W_main_arg7 m (dats m) c)⟩)
    (run_main m ρ)

end Cert.KernelRun

end
-- ==== Proof.Equation.lean ====
/- Where the arguments are finite the reference's five results are the same functions of the arguments as the kernel's. -/
module

public import proofs.«01_k».proof.Defs
public import proofs.«01_k».proof.Proof.KernelRun
public import proofs.«01_k».proof.Proof.Gen.ReferenceIdeal.Run

@[expose] public section

noncomputable section

namespace Cert.Equation

open Idealize.ShloMosaic hiding ix0 ix1 ix2 ix3
open Idealize.ShloMosaic.ValueIdx Idealize.SL.Sem
open Cert.Merit Cert.Spec Cert.RefValue Cert.Arrays Cert.KernelRun

/-! ## What the precondition gives -/

/-- The side conditions of the precondition's broadcasts. -/
theorem test_facts : Cert.Pre_finite.Facts := ⟨by decide, by decide, by decide⟩

theorem infinity_bits : Ideal.ofBits .f32 0x7F800000#32 = ⊤ := by simp [Ideal.ofBits, Ideal.ieee]

/-- A number whose absolute value tests below infinity is finite. -/
theorem finite_of_test {x : EReal} (h : Ideal.cmp .olt (max x (-x)) (Ideal.ofBits .f32 0x7F800000#32) = 1#1) : Finite x := by
  rw [infinity_bits] at h
  have lt : max x (-x) < ⊤ := by
    by_contra hn
    have e : Ideal.cmp .olt (max x (-x)) ⊤ = BitVec.ofBool (decide (max x (-x) < ⊤)) := rfl
    rw [e, decide_eq_false hn] at h
    exact absurd h (by decide)
  refine ⟨fun e => ?_, fun e => ?_⟩
  · rw [e, max_eq_left le_top] at lt; exact lt_irrefl _ lt
  · rw [e, EReal.neg_bot, max_eq_right bot_le] at lt; exact lt_irrefl _ lt

section Kernel

variable (m : (ℓ : Loc Cert.KernelIdeal.nD Cert.KernelIdeal.τ Cert.KernelIdeal.sig) → Buf (Elt Ideal) ℓ) (c : Dev Cert.KernelIdeal.nD)

/-- Every argument the precondition names is finite. -/
structure AllFinite : Prop extends FiniteArgs m c where
  base : ∀ i, Finite (m ((c.tc : Thread Cert.KernelIdeal.nD Cert.KernelIdeal.τ).loc Cert.KernelIdeal.main_arg3) i)
  ratioUp : Finite (m ((c.tc : Thread Cert.KernelIdeal.nD Cert.KernelIdeal.τ).loc Cert.KernelIdeal.main_arg6) ix0)
  ratioDn : Finite (m ((c.tc : Thread Cert.KernelIdeal.nD Cert.KernelIdeal.τ).loc Cert.KernelIdeal.main_arg7) ix0)

theorem allFinite [hP : Cert.Pre_finite.Facts] (h : Cert.Pre_KernelIdeal_finite m) : AllFinite m c where
  up i := finite_of_test (congrFun (h c).1 i)
  dn i := finite_of_test (congrFun (h c).2.1 i)
  omega i := finite_of_test (congrFun (h c).2.2.1 i)
  base i := finite_of_test (congrFun (h c).2.2.2.1 i)
  ratioUp := finite_of_test (congrFun (h c).2.2.2.2.1 ix0)
  ratioDn := finite_of_test (congrFun (h c).2.2.2.2.2 ix0)

end Kernel

/-! ## The reference's results -/

section Reference

open Cert.ReferenceIdeal Cert.ReferenceIdeal.Read

variable (x0 x1 : FVec Ideal S4096x100x24 .f32) (x2 : FVec Ideal S4096x24 .f32) (x3 : FVec Ideal S100 .f32) (x4 x5 x6 x7 : FVec Ideal S_ .f32)
  (h0 : ∀ i, Finite (x0 i)) (h1 : ∀ i, Finite (x1 i)) (h2 : ∀ i, Finite (x2 i)) (h3 : ∀ i, Finite (x3 i)) (h6 : Finite (x6 ix0)) (h7 : Finite (x7 ix0))

include h0 h2 in
theorem du_eq : val_main_v35 (F := Ideal) x0 x2 x3 x4 x6 = fun i => takeUp x0 x2 x3 x4 x6 (i 0) (i 2) (unit (i 1)) := by
  refine funext fun i => ?_
  obtain ⟨b, g, t, rfl⟩ : ∃ (b : Fin 4096) (g : Fin 100) (t : Fin 24), i = ix3 b g t := ⟨i 0, i 1, i 2, ValueIdx.eq_ix3 i⟩
  exact du_apply x0 x2 x3 x4 x6 h0 h2 b g t

include h1 h2 in
theorem dd_eq : val_main_v64 (F := Ideal) x1 x2 x3 x5 x7 = fun i => takeDn x1 x2 x3 x5 x7 (i 0) (i 2) (unit (i 1)) := by
  refine funext fun i => ?_
  obtain ⟨b, g, t, rfl⟩ : ∃ (b : Fin 4096) (g : Fin 100) (t : Fin 24), i = ix3 b g t := ⟨i 0, i 1, i 2, ValueIdx.eq_ix3 i⟩
  exact dd_apply x1 x2 x3 x5 x7 h1 h2 b g t

include h0 h2 in
theorem ls_eq : val_main_v37 (F := Ideal) x0 x2 x3 x4 x6 = fun i => takeUp x0 x2 x3 x4 x6 (i 0) (i 1) slackAt := by
  refine funext fun i => ?_
  obtain ⟨b, t, rfl⟩ : ∃ (b : Fin 4096) (t : Fin 24), i = ix2 b t := ⟨i 0, i 1, ValueIdx.eq_ix2 i⟩
  exact ls_apply x0 x2 x3 x4 x6 h0 h2 b t

include h1 h2 in
theorem sp_eq : val_main_v66 (F := Ideal) x1 x2 x3 x5 x7 = fun i => takeDn x1 x2 x3 x5 x7 (i 0) (i 1) slackAt := by
  refine funext fun i => ?_
  obtain ⟨b, t, rfl⟩ : ∃ (b : Fin 4096) (t : Fin 24), i = ix2 b t := ⟨i 0, i 1, ValueIdx.eq_ix2 i⟩
  exact sp_apply x1 x2 x3 x5 x7 h1 h2 b t

include h0 h1 h2 h3 h6 h7 in
theorem obj_eq : val_main_v79 (F := Ideal) x0 x1 x2 x3 x4 x5 x6 x7 = fun i => total x0 x1 x2 x3 x4 x5 x6 x7 (i 0) := by
  refine funext fun i => ?_
  obtain ⟨b, rfl⟩ : ∃ b : Fin 4096, i = ix1 b := ⟨i 0, ValueIdx.eq_ix1 i⟩
  exact obj_apply x0 x1 x2 x3 x4 x5 x6 x7 h0 h1 h2 h3 h6 h7 b

end Reference

end Cert.Equation

end
-- ==== Proof.lean ====
/- The certificate: the frames, that the idealized kernel is the kernel's own idealization, and that where the arguments
   the precondition names are finite all five results of the kernel are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Equation Cert.KernelRun

/-- The two runs end with the same five results. -/
theorem equal_results [hP : Cert.Pre_finite.Facts] : Cert.algebraic_KernelIdeal_ReferenceIdeal_pre_finite := by
  intro m g m' g' hpre hargs
  have hf : ∀ c, AllFinite m c := fun c => allFinite m c hpre
  refine ⟨duOf m, ddOf m, lsOf m, spOf m, objOf m, Cert.KernelRun.run m g fun c => (hf c).toFiniteArgs, ?_⟩
  refine (θ_run _ _ _).mono (fun r h c => ?_) (Cert.ReferenceIdeal.Value.run m' g')
  obtain ⟨r0, r1, r2, r3, r4, kept⟩ := h c
  obtain ⟨a0, a1, a2, a3, a4, a5, a6, a7⟩ := hargs c
  refine ⟨r0.trans ?_, r1.trans ?_, r2.trans ?_, r3.trans ?_, r4.trans ?_, kept⟩
  · rw [Cert.ReferenceIdeal.Read.val_main_v35_eq, a0, a2, a3, a4, a6]
    exact du_eq _ _ _ _ _ (hf c).up (hf c).omega
  · rw [Cert.ReferenceIdeal.Read.val_main_v64_eq, a1, a2, a3, a5, a7]
    exact dd_eq _ _ _ _ _ (hf c).dn (hf c).omega
  · rw [Cert.ReferenceIdeal.Read.val_main_v37_eq, a0, a2, a3, a4, a6]
    exact ls_eq _ _ _ _ _ (hf c).up (hf c).omega
  · rw [Cert.ReferenceIdeal.Read.val_main_v66_eq, a1, a2, a3, a5, a7]
    exact sp_eq _ _ _ _ _ (hf c).dn (hf c).omega
  · rw [Cert.ReferenceIdeal.Read.val_main_v79_eq, a0, a1, a2, a3, a4, a5, a6, a7]
    exact obj_eq _ _ _ _ _ _ _ _ (hf c).up (hf c).dn (hf c).omega (hf c).base (hf c).ratioUp (hf c).ratioDn

/-- The reference's run leaves its arguments and every counter as they were. -/
theorem reference_frame [hP : Cert.Pre_finite.Facts] : Cert.quiescent_ReferenceIdeal ∧ Cert.quiescent_ReferenceIdeal_pre_finite := by
  constructor
  all_goals
    exact fun m ρ _ => (θ_run _ _ _).mono (fun r h => ⟨fun c => (h c).2.2.2.2.2, sem_eq_zero_of_no_sems (by decide) r.2⟩)
      (Cert.ReferenceIdeal.Value.run m ρ)

theorem claim : Cert.Claim :=
  ⟨Cert.Kernel.Gen.facts, Cert.KernelIdeal.Gen.facts, Cert.ReferenceIdeal.Gen.facts, test_facts,
    fun m ρ _ => Cert.Kernel.Gen.frame m ρ,
    fun m ρ _ => Cert.KernelIdeal.Gen.frame m ρ,
    fun m ρ _ => Cert.KernelIdeal.Gen.frame m ρ,
    (reference_frame (hP := test_facts)).1,
    (reference_frame (hP := test_facts)).2,
    trivial,
    equal_results (hP := test_facts)⟩

end Cert.Proof

end
